-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S32x16x512 : Shape := ⟨3, ![32, 16, 512]⟩
abbrev S32 : Shape := ⟨1, ![32]⟩
abbrev S_ : Shape := ⟨0, ![]⟩
abbrev S1 : Shape := ⟨1, ![1]⟩
abbrev S1x16x512 : Shape := ⟨3, ![1, 16, 512]⟩
abbrev S16x512 : Shape := ⟨2, ![16, 512]⟩
abbrev S16x16x512 : Shape := ⟨3, ![16, 16, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S32x16x512, .f32⟩
  | _, _ => ⟨S512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_280 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c16_i32_287 : BitVec 32 := 16#32
  let v418 : BitVec 32 := Scalar.muli v417 c16_i32_287
  let c0_i32_295 : BitVec 32 := 0#32
  ![v418.toNat, 0]
def k0_dev32 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_280 : BitVec 32 := 1#32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c1_i32_291 : BitVec 32 := 1#32
  let v419 : BitVec 32 := Scalar.muli v417 c1_i32_291
  let v420 : BitVec 32 := Scalar.addi c0_i32_292 v419
  v420.toNat
def k0_dev33 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_296 : BitVec 32 := 2#32
  let v428 : BitVec 32 := Scalar.addi v2 c2_i32_296
  let c32_i32_297 : BitVec 32 := 32#32
  let c0_i32_298 : BitVec 32 := 0#32
  let v429 : BitVec 1 := Scalar.cmpi .eq c32_i32_297 c0_i32_298
  let c1_i32_299 : BitVec 32 := 1#32
  let v430 : BitVec 32 := Scalar.select v429 c1_i32_299 c32_i32_297
  let v431 : BitVec 32 := Scalar.remsi v428 v430
  let c0_i32_301 : BitVec 32 := 0#32
  let v433 : BitVec 1 := Scalar.cmpi .slt v431 c0_i32_301
  let c0_i32_302 : BitVec 32 := 0#32
  let v434 : BitVec 1 := Scalar.cmpi .slt v430 c0_i32_302
  let v435 : BitVec 1 := Scalar.xori v433 v434
  let c0_i32_300 : BitVec 32 := 0#32
  let v432 : BitVec 1 := Scalar.cmpi .ne v431 c0_i32_300
  let v436 : BitVec 1 := Scalar.andi v435 v432
  let v437 : BitVec 32 := Scalar.addi v431 v430
  let v438 : BitVec 32 := Scalar.select v436 v437 v431
  let c1_i32_307 : BitVec 32 := 1#32
  let v440 : BitVec 32 := Scalar.muli v438 c1_i32_307
  let v441 : BitVec 32 := Scalar.addi c0_i32_308 v440
  v441.toNat
def k0_dev34 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_312 : BitVec 32 := 3#32
  let v449 : BitVec 32 := Scalar.addi v2 c3_i32_312
  let c32_i32_313 : BitVec 32 := 32#32
  let c0_i32_314 : BitVec 32 := 0#32
  let v450 : BitVec 1 := Scalar.cmpi .eq c32_i32_313 c0_i32_314
  let c1_i32_315 : BitVec 32 := 1#32
  let v451 : BitVec 32 := Scalar.select v450 c1_i32_315 c32_i32_313
  let v452 : BitVec 32 := Scalar.remsi v449 v451
  let c0_i32_317 : BitVec 32 := 0#32
  let v454 : BitVec 1 := Scalar.cmpi .slt v452 c0_i32_317
  let c0_i32_318 : BitVec 32 := 0#32
  let v455 : BitVec 1 := Scalar.cmpi .slt v451 c0_i32_318
  let v456 : BitVec 1 := Scalar.xori v454 v455
  let c0_i32_316 : BitVec 32 := 0#32
  let v453 : BitVec 1 := Scalar.cmpi .ne v452 c0_i32_316
  let v457 : BitVec 1 := Scalar.andi v456 v453
  let v458 : BitVec 32 := Scalar.addi v452 v451
  let v459 : BitVec 32 := Scalar.select v457 v458 v452
  let c1_i32_323 : BitVec 32 := 1#32
  let v461 : BitVec 32 := Scalar.muli v459 c1_i32_323
  let v462 : BitVec 32 := Scalar.addi c0_i32_324 v461
  v462.toNat
def k0_dev35 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_328 : BitVec 32 := 4#32
  let v470 : BitVec 32 := Scalar.addi v2 c4_i32_328
  let c32_i32_329 : BitVec 32 := 32#32
  let c0_i32_330 : BitVec 32 := 0#32
  let v471 : BitVec 1 := Scalar.cmpi .eq c32_i32_329 c0_i32_330
  let c1_i32_331 : BitVec 32 := 1#32
  let v472 : BitVec 32 := Scalar.select v471 c1_i32_331 c32_i32_329
  let v473 : BitVec 32 := Scalar.remsi v470 v472
  let c0_i32_333 : BitVec 32 := 0#32
  let v475 : BitVec 1 := Scalar.cmpi .slt v473 c0_i32_333
  let c0_i32_334 : BitVec 32 := 0#32
  let v476 : BitVec 1 := Scalar.cmpi .slt v472 c0_i32_334
  let v477 : BitVec 1 := Scalar.xori v475 v476
  let c0_i32_332 : BitVec 32 := 0#32
  let v474 : BitVec 1 := Scalar.cmpi .ne v473 c0_i32_332
  let v478 : BitVec 1 := Scalar.andi v477 v474
  let v479 : BitVec 32 := Scalar.addi v473 v472
  let v480 : BitVec 32 := Scalar.select v478 v479 v473
  let c1_i32_339 : BitVec 32 := 1#32
  let v482 : BitVec 32 := Scalar.muli v480 c1_i32_339
  let v483 : BitVec 32 := Scalar.addi c0_i32_340 v482
  v483.toNat
def k0_dev36 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_344 : BitVec 32 := 5#32
  let v491 : BitVec 32 := Scalar.addi v2 c5_i32_344
  let c32_i32_345 : BitVec 32 := 32#32
  let c0_i32_346 : BitVec 32 := 0#32
  let v492 : BitVec 1 := Scalar.cmpi .eq c32_i32_345 c0_i32_346
  let c1_i32_347 : BitVec 32 := 1#32
  let v493 : BitVec 32 := Scalar.select v492 c1_i32_347 c32_i32_345
  let v494 : BitVec 32 := Scalar.remsi v491 v493
  let c0_i32_349 : BitVec 32 := 0#32
  let v496 : BitVec 1 := Scalar.cmpi .slt v494 c0_i32_349
  let c0_i32_350 : BitVec 32 := 0#32
  let v497 : BitVec 1 := Scalar.cmpi .slt v493 c0_i32_350
  let v498 : BitVec 1 := Scalar.xori v496 v497
  let c0_i32_348 : BitVec 32 := 0#32
  let v495 : BitVec 1 := Scalar.cmpi .ne v494 c0_i32_348
  let v499 : BitVec 1 := Scalar.andi v498 v495
  let v500 : BitVec 32 := Scalar.addi v494 v493
  let v501 : BitVec 32 := Scalar.select v499 v500 v494
  let c1_i32_355 : BitVec 32 := 1#32
  let v503 : BitVec 32 := Scalar.muli v501 c1_i32_355
  let v504 : BitVec 32 := Scalar.addi c0_i32_356 v503
  v504.toNat
def k0_dev37 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_360 : BitVec 32 := 6#32
  let v512 : BitVec 32 := Scalar.addi v2 c6_i32_360
  let c32_i32_361 : BitVec 32 := 32#32
  let c0_i32_362 : BitVec 32 := 0#32
  let v513 : BitVec 1 := Scalar.cmpi .eq c32_i32_361 c0_i32_362
  let c1_i32_363 : BitVec 32 := 1#32
  let v514 : BitVec 32 := Scalar.select v513 c1_i32_363 c32_i32_361
  let v515 : BitVec 32 := Scalar.remsi v512 v514
  let c0_i32_365 : BitVec 32 := 0#32
  let v517 : BitVec 1 := Scalar.cmpi .slt v515 c0_i32_365
  let c0_i32_366 : BitVec 32 := 0#32
  let v518 : BitVec 1 := Scalar.cmpi .slt v514 c0_i32_366
  let v519 : BitVec 1 := Scalar.xori v517 v518
  let c0_i32_364 : BitVec 32 := 0#32
  let v516 : BitVec 1 := Scalar.cmpi .ne v515 c0_i32_364
  let v520 : BitVec 1 := Scalar.andi v519 v516
  let v521 : BitVec 32 := Scalar.addi v515 v514
  let v522 : BitVec 32 := Scalar.select v520 v521 v515
  let c1_i32_371 : BitVec 32 := 1#32
  let v524 : BitVec 32 := Scalar.muli v522 c1_i32_371
  let v525 : BitVec 32 := Scalar.addi c0_i32_372 v524
  v525.toNat
def k0_dev38 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_376 : BitVec 32 := 7#32
  let v533 : BitVec 32 := Scalar.addi v2 c7_i32_376
  let c32_i32_377 : BitVec 32 := 32#32
  let c0_i32_378 : BitVec 32 := 0#32
  let v534 : BitVec 1 := Scalar.cmpi .eq c32_i32_377 c0_i32_378
  let c1_i32_379 : BitVec 32 := 1#32
  let v535 : BitVec 32 := Scalar.select v534 c1_i32_379 c32_i32_377
  let v536 : BitVec 32 := Scalar.remsi v533 v535
  let c0_i32_381 : BitVec 32 := 0#32
  let v538 : BitVec 1 := Scalar.cmpi .slt v536 c0_i32_381
  let c0_i32_382 : BitVec 32 := 0#32
  let v539 : BitVec 1 := Scalar.cmpi .slt v535 c0_i32_382
  let v540 : BitVec 1 := Scalar.xori v538 v539
  let c0_i32_380 : BitVec 32 := 0#32
  let v537 : BitVec 1 := Scalar.cmpi .ne v536 c0_i32_380
  let v541 : BitVec 1 := Scalar.andi v540 v537
  let v542 : BitVec 32 := Scalar.addi v536 v535
  let v543 : BitVec 32 := Scalar.select v541 v542 v536
  let c1_i32_387 : BitVec 32 := 1#32
  let v545 : BitVec 32 := Scalar.muli v543 c1_i32_387
  let v546 : BitVec 32 := Scalar.addi c0_i32_388 v545
  v546.toNat
def k0_dev39 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_392 : BitVec 32 := 8#32
  let v554 : BitVec 32 := Scalar.addi v2 c8_i32_392
  let c32_i32_393 : BitVec 32 := 32#32
  let c0_i32_394 : BitVec 32 := 0#32
  let v555 : BitVec 1 := Scalar.cmpi .eq c32_i32_393 c0_i32_394
  let c1_i32_395 : BitVec 32 := 1#32
  let v556 : BitVec 32 := Scalar.select v555 c1_i32_395 c32_i32_393
  let v557 : BitVec 32 := Scalar.remsi v554 v556
  let c0_i32_397 : BitVec 32 := 0#32
  let v559 : BitVec 1 := Scalar.cmpi .slt v557 c0_i32_397
  let c0_i32_398 : BitVec 32 := 0#32
  let v560 : BitVec 1 := Scalar.cmpi .slt v556 c0_i32_398
  let v561 : BitVec 1 := Scalar.xori v559 v560
  let c0_i32_396 : BitVec 32 := 0#32
  let v558 : BitVec 1 := Scalar.cmpi .ne v557 c0_i32_396
  let v562 : BitVec 1 := Scalar.andi v561 v558
  let v563 : BitVec 32 := Scalar.addi v557 v556
  let v564 : BitVec 32 := Scalar.select v562 v563 v557
  let c1_i32_403 : BitVec 32 := 1#32
  let v566 : BitVec 32 := Scalar.muli v564 c1_i32_403
  let v567 : BitVec 32 := Scalar.addi c0_i32_404 v566
  v567.toNat
def k0_dev40 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_408 : BitVec 32 := 9#32
  let v575 : BitVec 32 := Scalar.addi v2 c9_i32_408
  let c32_i32_409 : BitVec 32 := 32#32
  let c0_i32_410 : BitVec 32 := 0#32
  let v576 : BitVec 1 := Scalar.cmpi .eq c32_i32_409 c0_i32_410
  let c1_i32_411 : BitVec 32 := 1#32
  let v577 : BitVec 32 := Scalar.select v576 c1_i32_411 c32_i32_409
  let v578 : BitVec 32 := Scalar.remsi v575 v577
  let c0_i32_413 : BitVec 32 := 0#32
  let v580 : BitVec 1 := Scalar.cmpi .slt v578 c0_i32_413
  let c0_i32_414 : BitVec 32 := 0#32
  let v581 : BitVec 1 := Scalar.cmpi .slt v577 c0_i32_414
  let v582 : BitVec 1 := Scalar.xori v580 v581
  let c0_i32_412 : BitVec 32 := 0#32
  let v579 : BitVec 1 := Scalar.cmpi .ne v578 c0_i32_412
  let v583 : BitVec 1 := Scalar.andi v582 v579
  let v584 : BitVec 32 := Scalar.addi v578 v577
  let v585 : BitVec 32 := Scalar.select v583 v584 v578
  let c1_i32_419 : BitVec 32 := 1#32
  let v587 : BitVec 32 := Scalar.muli v585 c1_i32_419
  let v588 : BitVec 32 := Scalar.addi c0_i32_420 v587
  v588.toNat
def k0_dev41 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_424 : BitVec 32 := 10#32
  let v596 : BitVec 32 := Scalar.addi v2 c10_i32_424
  let c32_i32_425 : BitVec 32 := 32#32
  let c0_i32_426 : BitVec 32 := 0#32
  let v597 : BitVec 1 := Scalar.cmpi .eq c32_i32_425 c0_i32_426
  let c1_i32_427 : BitVec 32 := 1#32
  let v598 : BitVec 32 := Scalar.select v597 c1_i32_427 c32_i32_425
  let v599 : BitVec 32 := Scalar.remsi v596 v598
  let c0_i32_429 : BitVec 32 := 0#32
  let v601 : BitVec 1 := Scalar.cmpi .slt v599 c0_i32_429
  let c0_i32_430 : BitVec 32 := 0#32
  let v602 : BitVec 1 := Scalar.cmpi .slt v598 c0_i32_430
  let v603 : BitVec 1 := Scalar.xori v601 v602
  let c0_i32_428 : BitVec 32 := 0#32
  let v600 : BitVec 1 := Scalar.cmpi .ne v599 c0_i32_428
  let v604 : BitVec 1 := Scalar.andi v603 v600
  let v605 : BitVec 32 := Scalar.addi v599 v598
  let v606 : BitVec 32 := Scalar.select v604 v605 v599
  let c1_i32_435 : BitVec 32 := 1#32
  let v608 : BitVec 32 := Scalar.muli v606 c1_i32_435
  let v609 : BitVec 32 := Scalar.addi c0_i32_436 v608
  v609.toNat
def k0_dev42 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_440 : BitVec 32 := 11#32
  let v617 : BitVec 32 := Scalar.addi v2 c11_i32_440
  let c32_i32_441 : BitVec 32 := 32#32
  let c0_i32_442 : BitVec 32 := 0#32
  let v618 : BitVec 1 := Scalar.cmpi .eq c32_i32_441 c0_i32_442
  let c1_i32_443 : BitVec 32 := 1#32
  let v619 : BitVec 32 := Scalar.select v618 c1_i32_443 c32_i32_441
  let v620 : BitVec 32 := Scalar.remsi v617 v619
  let c0_i32_445 : BitVec 32 := 0#32
  let v622 : BitVec 1 := Scalar.cmpi .slt v620 c0_i32_445
  let c0_i32_446 : BitVec 32 := 0#32
  let v623 : BitVec 1 := Scalar.cmpi .slt v619 c0_i32_446
  let v624 : BitVec 1 := Scalar.xori v622 v623
  let c0_i32_444 : BitVec 32 := 0#32
  let v621 : BitVec 1 := Scalar.cmpi .ne v620 c0_i32_444
  let v625 : BitVec 1 := Scalar.andi v624 v621
  let v626 : BitVec 32 := Scalar.addi v620 v619
  let v627 : BitVec 32 := Scalar.select v625 v626 v620
  let c1_i32_451 : BitVec 32 := 1#32
  let v629 : BitVec 32 := Scalar.muli v627 c1_i32_451
  let v630 : BitVec 32 := Scalar.addi c0_i32_452 v629
  v630.toNat
def k0_dev43 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_456 : BitVec 32 := 12#32
  let v638 : BitVec 32 := Scalar.addi v2 c12_i32_456
  let c32_i32_457 : BitVec 32 := 32#32
  let c0_i32_458 : BitVec 32 := 0#32
  let v639 : BitVec 1 := Scalar.cmpi .eq c32_i32_457 c0_i32_458
  let c1_i32_459 : BitVec 32 := 1#32
  let v640 : BitVec 32 := Scalar.select v639 c1_i32_459 c32_i32_457
  let v641 : BitVec 32 := Scalar.remsi v638 v640
  let c0_i32_461 : BitVec 32 := 0#32
  let v643 : BitVec 1 := Scalar.cmpi .slt v641 c0_i32_461
  let c0_i32_462 : BitVec 32 := 0#32
  let v644 : BitVec 1 := Scalar.cmpi .slt v640 c0_i32_462
  let v645 : BitVec 1 := Scalar.xori v643 v644
  let c0_i32_460 : BitVec 32 := 0#32
  let v642 : BitVec 1 := Scalar.cmpi .ne v641 c0_i32_460
  let v646 : BitVec 1 := Scalar.andi v645 v642
  let v647 : BitVec 32 := Scalar.addi v641 v640
  let v648 : BitVec 32 := Scalar.select v646 v647 v641
  let c1_i32_467 : BitVec 32 := 1#32
  let v650 : BitVec 32 := Scalar.muli v648 c1_i32_467
  let v651 : BitVec 32 := Scalar.addi c0_i32_468 v650
  v651.toNat
def k0_dev44 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_472 : BitVec 32 := 13#32
  let v659 : BitVec 32 := Scalar.addi v2 c13_i32_472
  let c32_i32_473 : BitVec 32 := 32#32
  let c0_i32_474 : BitVec 32 := 0#32
  let v660 : BitVec 1 := Scalar.cmpi .eq c32_i32_473 c0_i32_474
  let c1_i32_475 : BitVec 32 := 1#32
  let v661 : BitVec 32 := Scalar.select v660 c1_i32_475 c32_i32_473
  let v662 : BitVec 32 := Scalar.remsi v659 v661
  let c0_i32_477 : BitVec 32 := 0#32
  let v664 : BitVec 1 := Scalar.cmpi .slt v662 c0_i32_477
  let c0_i32_478 : BitVec 32 := 0#32
  let v665 : BitVec 1 := Scalar.cmpi .slt v661 c0_i32_478
  let v666 : BitVec 1 := Scalar.xori v664 v665
  let c0_i32_476 : BitVec 32 := 0#32
  let v663 : BitVec 1 := Scalar.cmpi .ne v662 c0_i32_476
  let v667 : BitVec 1 := Scalar.andi v666 v663
  let v668 : BitVec 32 := Scalar.addi v662 v661
  let v669 : BitVec 32 := Scalar.select v667 v668 v662
  let c1_i32_483 : BitVec 32 := 1#32
  let v671 : BitVec 32 := Scalar.muli v669 c1_i32_483
  let v672 : BitVec 32 := Scalar.addi c0_i32_484 v671
  v672.toNat
def k0_dev45 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_488 : BitVec 32 := 14#32
  let v680 : BitVec 32 := Scalar.addi v2 c14_i32_488
  let c32_i32_489 : BitVec 32 := 32#32
  let c0_i32_490 : BitVec 32 := 0#32
  let v681 : BitVec 1 := Scalar.cmpi .eq c32_i32_489 c0_i32_490
  let c1_i32_491 : BitVec 32 := 1#32
  let v682 : BitVec 32 := Scalar.select v681 c1_i32_491 c32_i32_489
  let v683 : BitVec 32 := Scalar.remsi v680 v682
  let c0_i32_493 : BitVec 32 := 0#32
  let v685 : BitVec 1 := Scalar.cmpi .slt v683 c0_i32_493
  let c0_i32_494 : BitVec 32 := 0#32
  let v686 : BitVec 1 := Scalar.cmpi .slt v682 c0_i32_494
  let v687 : BitVec 1 := Scalar.xori v685 v686
  let c0_i32_492 : BitVec 32 := 0#32
  let v684 : BitVec 1 := Scalar.cmpi .ne v683 c0_i32_492
  let v688 : BitVec 1 := Scalar.andi v687 v684
  let v689 : BitVec 32 := Scalar.addi v683 v682
  let v690 : BitVec 32 := Scalar.select v688 v689 v683
  let c1_i32_499 : BitVec 32 := 1#32
  let v692 : BitVec 32 := Scalar.muli v690 c1_i32_499
  let v693 : BitVec 32 := Scalar.addi c0_i32_500 v692
  v693.toNat
def k0_dev46 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_504 : BitVec 32 := 15#32
  let v701 : BitVec 32 := Scalar.addi v2 c15_i32_504
  let c32_i32_505 : BitVec 32 := 32#32
  let c0_i32_506 : BitVec 32 := 0#32
  let v702 : BitVec 1 := Scalar.cmpi .eq c32_i32_505 c0_i32_506
  let c1_i32_507 : BitVec 32 := 1#32
  let v703 : BitVec 32 := Scalar.select v702 c1_i32_507 c32_i32_505
  let v704 : BitVec 32 := Scalar.remsi v701 v703
  let c0_i32_509 : BitVec 32 := 0#32
  let v706 : BitVec 1 := Scalar.cmpi .slt v704 c0_i32_509
  let c0_i32_510 : BitVec 32 := 0#32
  let v707 : BitVec 1 := Scalar.cmpi .slt v703 c0_i32_510
  let v708 : BitVec 1 := Scalar.xori v706 v707
  let c0_i32_508 : BitVec 32 := 0#32
  let v705 : BitVec 1 := Scalar.cmpi .ne v704 c0_i32_508
  let v709 : BitVec 1 := Scalar.andi v708 v705
  let v710 : BitVec 32 := Scalar.addi v704 v703
  let v711 : BitVec 32 := Scalar.select v709 v710 v704
  let c1_i32_515 : BitVec 32 := 1#32
  let v713 : BitVec 32 := Scalar.muli v711 c1_i32_515
  let v714 : BitVec 32 := Scalar.addi c0_i32_516 v713
  v714.toNat
def k0_dev47 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_520 : BitVec 32 := 16#32
  let v722 : BitVec 32 := Scalar.addi v2 c16_i32_520
  let c32_i32_521 : BitVec 32 := 32#32
  let c0_i32_522 : BitVec 32 := 0#32
  let v723 : BitVec 1 := Scalar.cmpi .eq c32_i32_521 c0_i32_522
  let c1_i32_523 : BitVec 32 := 1#32
  let v724 : BitVec 32 := Scalar.select v723 c1_i32_523 c32_i32_521
  let v725 : BitVec 32 := Scalar.remsi v722 v724
  let c0_i32_525 : BitVec 32 := 0#32
  let v727 : BitVec 1 := Scalar.cmpi .slt v725 c0_i32_525
  let c0_i32_526 : BitVec 32 := 0#32
  let v728 : BitVec 1 := Scalar.cmpi .slt v724 c0_i32_526
  let v729 : BitVec 1 := Scalar.xori v727 v728
  let c0_i32_524 : BitVec 32 := 0#32
  let v726 : BitVec 1 := Scalar.cmpi .ne v725 c0_i32_524
  let v730 : BitVec 1 := Scalar.andi v729 v726
  let v731 : BitVec 32 := Scalar.addi v725 v724
  let v732 : BitVec 32 := Scalar.select v730 v731 v725
  let c1_i32_531 : BitVec 32 := 1#32
  let v734 : BitVec 32 := Scalar.muli v732 c1_i32_531
  let v735 : BitVec 32 := Scalar.addi c0_i32_532 v734
  v735.toNat
def k0_dev48 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_536 : BitVec 32 := 17#32
  let v743 : BitVec 32 := Scalar.addi v2 c17_i32_536
  let c32_i32_537 : BitVec 32 := 32#32
  let c0_i32_538 : BitVec 32 := 0#32
  let v744 : BitVec 1 := Scalar.cmpi .eq c32_i32_537 c0_i32_538
  let c1_i32_539 : BitVec 32 := 1#32
  let v745 : BitVec 32 := Scalar.select v744 c1_i32_539 c32_i32_537
  let v746 : BitVec 32 := Scalar.remsi v743 v745
  let c0_i32_541 : BitVec 32 := 0#32
  let v748 : BitVec 1 := Scalar.cmpi .slt v746 c0_i32_541
  let c0_i32_542 : BitVec 32 := 0#32
  let v749 : BitVec 1 := Scalar.cmpi .slt v745 c0_i32_542
  let v750 : BitVec 1 := Scalar.xori v748 v749
  let c0_i32_540 : BitVec 32 := 0#32
  let v747 : BitVec 1 := Scalar.cmpi .ne v746 c0_i32_540
  let v751 : BitVec 1 := Scalar.andi v750 v747
  let v752 : BitVec 32 := Scalar.addi v746 v745
  let v753 : BitVec 32 := Scalar.select v751 v752 v746
  let c1_i32_547 : BitVec 32 := 1#32
  let v755 : BitVec 32 := Scalar.muli v753 c1_i32_547
  let v756 : BitVec 32 := Scalar.addi c0_i32_548 v755
  v756.toNat
def k0_dev49 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_552 : BitVec 32 := 18#32
  let v764 : BitVec 32 := Scalar.addi v2 c18_i32_552
  let c32_i32_553 : BitVec 32 := 32#32
  let c0_i32_554 : BitVec 32 := 0#32
  let v765 : BitVec 1 := Scalar.cmpi .eq c32_i32_553 c0_i32_554
  let c1_i32_555 : BitVec 32 := 1#32
  let v766 : BitVec 32 := Scalar.select v765 c1_i32_555 c32_i32_553
  let v767 : BitVec 32 := Scalar.remsi v764 v766
  let c0_i32_557 : BitVec 32 := 0#32
  let v769 : BitVec 1 := Scalar.cmpi .slt v767 c0_i32_557
  let c0_i32_558 : BitVec 32 := 0#32
  let v770 : BitVec 1 := Scalar.cmpi .slt v766 c0_i32_558
  let v771 : BitVec 1 := Scalar.xori v769 v770
  let c0_i32_556 : BitVec 32 := 0#32
  let v768 : BitVec 1 := Scalar.cmpi .ne v767 c0_i32_556
  let v772 : BitVec 1 := Scalar.andi v771 v768
  let v773 : BitVec 32 := Scalar.addi v767 v766
  let v774 : BitVec 32 := Scalar.select v772 v773 v767
  let c1_i32_563 : BitVec 32 := 1#32
  let v776 : BitVec 32 := Scalar.muli v774 c1_i32_563
  let v777 : BitVec 32 := Scalar.addi c0_i32_564 v776
  v777.toNat
def k0_dev50 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_568 : BitVec 32 := 19#32
  let v785 : BitVec 32 := Scalar.addi v2 c19_i32_568
  let c32_i32_569 : BitVec 32 := 32#32
  let c0_i32_570 : BitVec 32 := 0#32
  let v786 : BitVec 1 := Scalar.cmpi .eq c32_i32_569 c0_i32_570
  let c1_i32_571 : BitVec 32 := 1#32
  let v787 : BitVec 32 := Scalar.select v786 c1_i32_571 c32_i32_569
  let v788 : BitVec 32 := Scalar.remsi v785 v787
  let c0_i32_573 : BitVec 32 := 0#32
  let v790 : BitVec 1 := Scalar.cmpi .slt v788 c0_i32_573
  let c0_i32_574 : BitVec 32 := 0#32
  let v791 : BitVec 1 := Scalar.cmpi .slt v787 c0_i32_574
  let v792 : BitVec 1 := Scalar.xori v790 v791
  let c0_i32_572 : BitVec 32 := 0#32
  let v789 : BitVec 1 := Scalar.cmpi .ne v788 c0_i32_572
  let v793 : BitVec 1 := Scalar.andi v792 v789
  let v794 : BitVec 32 := Scalar.addi v788 v787
  let v795 : BitVec 32 := Scalar.select v793 v794 v788
  let c1_i32_579 : BitVec 32 := 1#32
  let v797 : BitVec 32 := Scalar.muli v795 c1_i32_579
  let v798 : BitVec 32 := Scalar.addi c0_i32_580 v797
  v798.toNat
def k0_dev51 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_584 : BitVec 32 := 20#32
  let v806 : BitVec 32 := Scalar.addi v2 c20_i32_584
  let c32_i32_585 : BitVec 32 := 32#32
  let c0_i32_586 : BitVec 32 := 0#32
  let v807 : BitVec 1 := Scalar.cmpi .eq c32_i32_585 c0_i32_586
  let c1_i32_587 : BitVec 32 := 1#32
  let v808 : BitVec 32 := Scalar.select v807 c1_i32_587 c32_i32_585
  let v809 : BitVec 32 := Scalar.remsi v806 v808
  let c0_i32_589 : BitVec 32 := 0#32
  let v811 : BitVec 1 := Scalar.cmpi .slt v809 c0_i32_589
  let c0_i32_590 : BitVec 32 := 0#32
  let v812 : BitVec 1 := Scalar.cmpi .slt v808 c0_i32_590
  let v813 : BitVec 1 := Scalar.xori v811 v812
  let c0_i32_588 : BitVec 32 := 0#32
  let v810 : BitVec 1 := Scalar.cmpi .ne v809 c0_i32_588
  let v814 : BitVec 1 := Scalar.andi v813 v810
  let v815 : BitVec 32 := Scalar.addi v809 v808
  let v816 : BitVec 32 := Scalar.select v814 v815 v809
  let c1_i32_595 : BitVec 32 := 1#32
  let v818 : BitVec 32 := Scalar.muli v816 c1_i32_595
  let v819 : BitVec 32 := Scalar.addi c0_i32_596 v818
  v819.toNat
def k0_dev52 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_600 : BitVec 32 := 21#32
  let v827 : BitVec 32 := Scalar.addi v2 c21_i32_600
  let c32_i32_601 : BitVec 32 := 32#32
  let c0_i32_602 : BitVec 32 := 0#32
  let v828 : BitVec 1 := Scalar.cmpi .eq c32_i32_601 c0_i32_602
  let c1_i32_603 : BitVec 32 := 1#32
  let v829 : BitVec 32 := Scalar.select v828 c1_i32_603 c32_i32_601
  let v830 : BitVec 32 := Scalar.remsi v827 v829
  let c0_i32_605 : BitVec 32 := 0#32
  let v832 : BitVec 1 := Scalar.cmpi .slt v830 c0_i32_605
  let c0_i32_606 : BitVec 32 := 0#32
  let v833 : BitVec 1 := Scalar.cmpi .slt v829 c0_i32_606
  let v834 : BitVec 1 := Scalar.xori v832 v833
  let c0_i32_604 : BitVec 32 := 0#32
  let v831 : BitVec 1 := Scalar.cmpi .ne v830 c0_i32_604
  let v835 : BitVec 1 := Scalar.andi v834 v831
  let v836 : BitVec 32 := Scalar.addi v830 v829
  let v837 : BitVec 32 := Scalar.select v835 v836 v830
  let c1_i32_611 : BitVec 32 := 1#32
  let v839 : BitVec 32 := Scalar.muli v837 c1_i32_611
  let v840 : BitVec 32 := Scalar.addi c0_i32_612 v839
  v840.toNat
def k0_dev53 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_616 : BitVec 32 := 22#32
  let v848 : BitVec 32 := Scalar.addi v2 c22_i32_616
  let c32_i32_617 : BitVec 32 := 32#32
  let c0_i32_618 : BitVec 32 := 0#32
  let v849 : BitVec 1 := Scalar.cmpi .eq c32_i32_617 c0_i32_618
  let c1_i32_619 : BitVec 32 := 1#32
  let v850 : BitVec 32 := Scalar.select v849 c1_i32_619 c32_i32_617
  let v851 : BitVec 32 := Scalar.remsi v848 v850
  let c0_i32_621 : BitVec 32 := 0#32
  let v853 : BitVec 1 := Scalar.cmpi .slt v851 c0_i32_621
  let c0_i32_622 : BitVec 32 := 0#32
  let v854 : BitVec 1 := Scalar.cmpi .slt v850 c0_i32_622
  let v855 : BitVec 1 := Scalar.xori v853 v854
  let c0_i32_620 : BitVec 32 := 0#32
  let v852 : BitVec 1 := Scalar.cmpi .ne v851 c0_i32_620
  let v856 : BitVec 1 := Scalar.andi v855 v852
  let v857 : BitVec 32 := Scalar.addi v851 v850
  let v858 : BitVec 32 := Scalar.select v856 v857 v851
  let c1_i32_627 : BitVec 32 := 1#32
  let v860 : BitVec 32 := Scalar.muli v858 c1_i32_627
  let v861 : BitVec 32 := Scalar.addi c0_i32_628 v860
  v861.toNat
def k0_dev54 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_632 : BitVec 32 := 23#32
  let v869 : BitVec 32 := Scalar.addi v2 c23_i32_632
  let c32_i32_633 : BitVec 32 := 32#32
  let c0_i32_634 : BitVec 32 := 0#32
  let v870 : BitVec 1 := Scalar.cmpi .eq c32_i32_633 c0_i32_634
  let c1_i32_635 : BitVec 32 := 1#32
  let v871 : BitVec 32 := Scalar.select v870 c1_i32_635 c32_i32_633
  let v872 : BitVec 32 := Scalar.remsi v869 v871
  let c0_i32_637 : BitVec 32 := 0#32
  let v874 : BitVec 1 := Scalar.cmpi .slt v872 c0_i32_637
  let c0_i32_638 : BitVec 32 := 0#32
  let v875 : BitVec 1 := Scalar.cmpi .slt v871 c0_i32_638
  let v876 : BitVec 1 := Scalar.xori v874 v875
  let c0_i32_636 : BitVec 32 := 0#32
  let v873 : BitVec 1 := Scalar.cmpi .ne v872 c0_i32_636
  let v877 : BitVec 1 := Scalar.andi v876 v873
  let v878 : BitVec 32 := Scalar.addi v872 v871
  let v879 : BitVec 32 := Scalar.select v877 v878 v872
  let c1_i32_643 : BitVec 32 := 1#32
  let v881 : BitVec 32 := Scalar.muli v879 c1_i32_643
  let v882 : BitVec 32 := Scalar.addi c0_i32_644 v881
  v882.toNat
def k0_dev55 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_648 : BitVec 32 := 24#32
  let v890 : BitVec 32 := Scalar.addi v2 c24_i32_648
  let c32_i32_649 : BitVec 32 := 32#32
  let c0_i32_650 : BitVec 32 := 0#32
  let v891 : BitVec 1 := Scalar.cmpi .eq c32_i32_649 c0_i32_650
  let c1_i32_651 : BitVec 32 := 1#32
  let v892 : BitVec 32 := Scalar.select v891 c1_i32_651 c32_i32_649
  let v893 : BitVec 32 := Scalar.remsi v890 v892
  let c0_i32_653 : BitVec 32 := 0#32
  let v895 : BitVec 1 := Scalar.cmpi .slt v893 c0_i32_653
  let c0_i32_654 : BitVec 32 := 0#32
  let v896 : BitVec 1 := Scalar.cmpi .slt v892 c0_i32_654
  let v897 : BitVec 1 := Scalar.xori v895 v896
  let c0_i32_652 : BitVec 32 := 0#32
  let v894 : BitVec 1 := Scalar.cmpi .ne v893 c0_i32_652
  let v898 : BitVec 1 := Scalar.andi v897 v894
  let v899 : BitVec 32 := Scalar.addi v893 v892
  let v900 : BitVec 32 := Scalar.select v898 v899 v893
  let c1_i32_659 : BitVec 32 := 1#32
  let v902 : BitVec 32 := Scalar.muli v900 c1_i32_659
  let v903 : BitVec 32 := Scalar.addi c0_i32_660 v902
  v903.toNat
def k0_dev56 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_664 : BitVec 32 := 25#32
  let v911 : BitVec 32 := Scalar.addi v2 c25_i32_664
  let c32_i32_665 : BitVec 32 := 32#32
  let c0_i32_666 : BitVec 32 := 0#32
  let v912 : BitVec 1 := Scalar.cmpi .eq c32_i32_665 c0_i32_666
  let c1_i32_667 : BitVec 32 := 1#32
  let v913 : BitVec 32 := Scalar.select v912 c1_i32_667 c32_i32_665
  let v914 : BitVec 32 := Scalar.remsi v911 v913
  let c0_i32_669 : BitVec 32 := 0#32
  let v916 : BitVec 1 := Scalar.cmpi .slt v914 c0_i32_669
  let c0_i32_670 : BitVec 32 := 0#32
  let v917 : BitVec 1 := Scalar.cmpi .slt v913 c0_i32_670
  let v918 : BitVec 1 := Scalar.xori v916 v917
  let c0_i32_668 : BitVec 32 := 0#32
  let v915 : BitVec 1 := Scalar.cmpi .ne v914 c0_i32_668
  let v919 : BitVec 1 := Scalar.andi v918 v915
  let v920 : BitVec 32 := Scalar.addi v914 v913
  let v921 : BitVec 32 := Scalar.select v919 v920 v914
  let c1_i32_675 : BitVec 32 := 1#32
  let v923 : BitVec 32 := Scalar.muli v921 c1_i32_675
  let v924 : BitVec 32 := Scalar.addi c0_i32_676 v923
  v924.toNat
def k0_dev57 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_680 : BitVec 32 := 26#32
  let v932 : BitVec 32 := Scalar.addi v2 c26_i32_680
  let c32_i32_681 : BitVec 32 := 32#32
  let c0_i32_682 : BitVec 32 := 0#32
  let v933 : BitVec 1 := Scalar.cmpi .eq c32_i32_681 c0_i32_682
  let c1_i32_683 : BitVec 32 := 1#32
  let v934 : BitVec 32 := Scalar.select v933 c1_i32_683 c32_i32_681
  let v935 : BitVec 32 := Scalar.remsi v932 v934
  let c0_i32_685 : BitVec 32 := 0#32
  let v937 : BitVec 1 := Scalar.cmpi .slt v935 c0_i32_685
  let c0_i32_686 : BitVec 32 := 0#32
  let v938 : BitVec 1 := Scalar.cmpi .slt v934 c0_i32_686
  let v939 : BitVec 1 := Scalar.xori v937 v938
  let c0_i32_684 : BitVec 32 := 0#32
  let v936 : BitVec 1 := Scalar.cmpi .ne v935 c0_i32_684
  let v940 : BitVec 1 := Scalar.andi v939 v936
  let v941 : BitVec 32 := Scalar.addi v935 v934
  let v942 : BitVec 32 := Scalar.select v940 v941 v935
  let c1_i32_691 : BitVec 32 := 1#32
  let v944 : BitVec 32 := Scalar.muli v942 c1_i32_691
  let v945 : BitVec 32 := Scalar.addi c0_i32_692 v944
  v945.toNat
def k0_dev58 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_696 : BitVec 32 := 27#32
  let v953 : BitVec 32 := Scalar.addi v2 c27_i32_696
  let c32_i32_697 : BitVec 32 := 32#32
  let c0_i32_698 : BitVec 32 := 0#32
  let v954 : BitVec 1 := Scalar.cmpi .eq c32_i32_697 c0_i32_698
  let c1_i32_699 : BitVec 32 := 1#32
  let v955 : BitVec 32 := Scalar.select v954 c1_i32_699 c32_i32_697
  let v956 : BitVec 32 := Scalar.remsi v953 v955
  let c0_i32_701 : BitVec 32 := 0#32
  let v958 : BitVec 1 := Scalar.cmpi .slt v956 c0_i32_701
  let c0_i32_702 : BitVec 32 := 0#32
  let v959 : BitVec 1 := Scalar.cmpi .slt v955 c0_i32_702
  let v960 : BitVec 1 := Scalar.xori v958 v959
  let c0_i32_700 : BitVec 32 := 0#32
  let v957 : BitVec 1 := Scalar.cmpi .ne v956 c0_i32_700
  let v961 : BitVec 1 := Scalar.andi v960 v957
  let v962 : BitVec 32 := Scalar.addi v956 v955
  let v963 : BitVec 32 := Scalar.select v961 v962 v956
  let c1_i32_707 : BitVec 32 := 1#32
  let v965 : BitVec 32 := Scalar.muli v963 c1_i32_707
  let v966 : BitVec 32 := Scalar.addi c0_i32_708 v965
  v966.toNat
def k0_dev59 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_712 : BitVec 32 := 28#32
  let v974 : BitVec 32 := Scalar.addi v2 c28_i32_712
  let c32_i32_713 : BitVec 32 := 32#32
  let c0_i32_714 : BitVec 32 := 0#32
  let v975 : BitVec 1 := Scalar.cmpi .eq c32_i32_713 c0_i32_714
  let c1_i32_715 : BitVec 32 := 1#32
  let v976 : BitVec 32 := Scalar.select v975 c1_i32_715 c32_i32_713
  let v977 : BitVec 32 := Scalar.remsi v974 v976
  let c0_i32_717 : BitVec 32 := 0#32
  let v979 : BitVec 1 := Scalar.cmpi .slt v977 c0_i32_717
  let c0_i32_718 : BitVec 32 := 0#32
  let v980 : BitVec 1 := Scalar.cmpi .slt v976 c0_i32_718
  let v981 : BitVec 1 := Scalar.xori v979 v980
  let c0_i32_716 : BitVec 32 := 0#32
  let v978 : BitVec 1 := Scalar.cmpi .ne v977 c0_i32_716
  let v982 : BitVec 1 := Scalar.andi v981 v978
  let v983 : BitVec 32 := Scalar.addi v977 v976
  let v984 : BitVec 32 := Scalar.select v982 v983 v977
  let c1_i32_723 : BitVec 32 := 1#32
  let v986 : BitVec 32 := Scalar.muli v984 c1_i32_723
  let v987 : BitVec 32 := Scalar.addi c0_i32_724 v986
  v987.toNat
def k0_dev60 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_728 : BitVec 32 := 29#32
  let v995 : BitVec 32 := Scalar.addi v2 c29_i32_728
  let c32_i32_729 : BitVec 32 := 32#32
  let c0_i32_730 : BitVec 32 := 0#32
  let v996 : BitVec 1 := Scalar.cmpi .eq c32_i32_729 c0_i32_730
  let c1_i32_731 : BitVec 32 := 1#32
  let v997 : BitVec 32 := Scalar.select v996 c1_i32_731 c32_i32_729
  let v998 : BitVec 32 := Scalar.remsi v995 v997
  let c0_i32_733 : BitVec 32 := 0#32
  let v1000 : BitVec 1 := Scalar.cmpi .slt v998 c0_i32_733
  let c0_i32_734 : BitVec 32 := 0#32
  let v1001 : BitVec 1 := Scalar.cmpi .slt v997 c0_i32_734
  let v1002 : BitVec 1 := Scalar.xori v1000 v1001
  let c0_i32_732 : BitVec 32 := 0#32
  let v999 : BitVec 1 := Scalar.cmpi .ne v998 c0_i32_732
  let v1003 : BitVec 1 := Scalar.andi v1002 v999
  let v1004 : BitVec 32 := Scalar.addi v998 v997
  let v1005 : BitVec 32 := Scalar.select v1003 v1004 v998
  let c1_i32_739 : BitVec 32 := 1#32
  let v1007 : BitVec 32 := Scalar.muli v1005 c1_i32_739
  let v1008 : BitVec 32 := Scalar.addi c0_i32_740 v1007
  v1008.toNat
def k0_dev61 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_744 : BitVec 32 := 30#32
  let v1016 : BitVec 32 := Scalar.addi v2 c30_i32_744
  let c32_i32_745 : BitVec 32 := 32#32
  let c0_i32_746 : BitVec 32 := 0#32
  let v1017 : BitVec 1 := Scalar.cmpi .eq c32_i32_745 c0_i32_746
  let c1_i32_747 : BitVec 32 := 1#32
  let v1018 : BitVec 32 := Scalar.select v1017 c1_i32_747 c32_i32_745
  let v1019 : BitVec 32 := Scalar.remsi v1016 v1018
  let c0_i32_749 : BitVec 32 := 0#32
  let v1021 : BitVec 1 := Scalar.cmpi .slt v1019 c0_i32_749
  let c0_i32_750 : BitVec 32 := 0#32
  let v1022 : BitVec 1 := Scalar.cmpi .slt v1018 c0_i32_750
  let v1023 : BitVec 1 := Scalar.xori v1021 v1022
  let c0_i32_748 : BitVec 32 := 0#32
  let v1020 : BitVec 1 := Scalar.cmpi .ne v1019 c0_i32_748
  let v1024 : BitVec 1 := Scalar.andi v1023 v1020
  let v1025 : BitVec 32 := Scalar.addi v1019 v1018
  let v1026 : BitVec 32 := Scalar.select v1024 v1025 v1019
  let c1_i32_755 : BitVec 32 := 1#32
  let v1028 : BitVec 32 := Scalar.muli v1026 c1_i32_755
  let v1029 : BitVec 32 := Scalar.addi c0_i32_756 v1028
  v1029.toNat
def k0_dev62 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_760 : BitVec 32 := 31#32
  let v1037 : BitVec 32 := Scalar.addi v2 c31_i32_760
  let c32_i32_761 : BitVec 32 := 32#32
  let c0_i32_762 : BitVec 32 := 0#32
  let v1038 : BitVec 1 := Scalar.cmpi .eq c32_i32_761 c0_i32_762
  let c1_i32_763 : BitVec 32 := 1#32
  let v1039 : BitVec 32 := Scalar.select v1038 c1_i32_763 c32_i32_761
  let v1040 : BitVec 32 := Scalar.remsi v1037 v1039
  let c0_i32_765 : BitVec 32 := 0#32
  let v1042 : BitVec 1 := Scalar.cmpi .slt v1040 c0_i32_765
  let c0_i32_766 : BitVec 32 := 0#32
  let v1043 : BitVec 1 := Scalar.cmpi .slt v1039 c0_i32_766
  let v1044 : BitVec 1 := Scalar.xori v1042 v1043
  let c0_i32_764 : BitVec 32 := 0#32
  let v1041 : BitVec 1 := Scalar.cmpi .ne v1040 c0_i32_764
  let v1045 : BitVec 1 := Scalar.andi v1044 v1041
  let v1046 : BitVec 32 := Scalar.addi v1040 v1039
  let v1047 : BitVec 32 := Scalar.select v1045 v1046 v1040
  let c1_i32_771 : BitVec 32 := 1#32
  let v1049 : BitVec 32 := Scalar.muli v1047 c1_i32_771
  let v1050 : BitVec 32 := Scalar.addi c0_i32_772 v1049
  v1050.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_776 : BitVec 32 := 16#32
  let v1058 : BitVec 32 := Scalar.muli v2 c16_i32_776
  let v1059 : Index := Scalar.indexCast v1058
  let c0 : Index := 0#32
  ![v1059.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1292 : BitVec 32 := 16#32
  let v1644 : BitVec 32 := Scalar.muli v2 c16_i32_1292
  let c0_i32_1297 : BitVec 32 := 0#32
  ![v1644.toNat, 0]
def k0_dev63 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1284 : BitVec 32 := 1#32
  let v1632 : BitVec 32 := Scalar.addi v2 c1_i32_1284
  let c32_i32_1285 : BitVec 32 := 32#32
  let c0_i32_1286 : BitVec 32 := 0#32
  let v1633 : BitVec 1 := Scalar.cmpi .eq c32_i32_1285 c0_i32_1286
  let c1_i32_1287 : BitVec 32 := 1#32
  let v1634 : BitVec 32 := Scalar.select v1633 c1_i32_1287 c32_i32_1285
  let v1635 : BitVec 32 := Scalar.remsi v1632 v1634
  let c0_i32_1289 : BitVec 32 := 0#32
  let v1637 : BitVec 1 := Scalar.cmpi .slt v1635 c0_i32_1289
  let c0_i32_1290 : BitVec 32 := 0#32
  let v1638 : BitVec 1 := Scalar.cmpi .slt v1634 c0_i32_1290
  let v1639 : BitVec 1 := Scalar.xori v1637 v1638
  let c0_i32_1288 : BitVec 32 := 0#32
  let v1636 : BitVec 1 := Scalar.cmpi .ne v1635 c0_i32_1288
  let v1640 : BitVec 1 := Scalar.andi v1639 v1636
  let v1641 : BitVec 32 := Scalar.addi v1635 v1634
  let v1642 : BitVec 32 := Scalar.select v1640 v1641 v1635
  let c1_i32_1295 : BitVec 32 := 1#32
  let v1645 : BitVec 32 := Scalar.muli v1642 c1_i32_1295
  let v1646 : BitVec 32 := Scalar.addi c0_i32_1296 v1645
  v1646.toNat
def k0_dev64 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1299 : BitVec 32 := 2#32
  let v1653 : BitVec 32 := Scalar.addi v2 c2_i32_1299
  let c32_i32_1300 : BitVec 32 := 32#32
  let c0_i32_1301 : BitVec 32 := 0#32
  let v1654 : BitVec 1 := Scalar.cmpi .eq c32_i32_1300 c0_i32_1301
  let c1_i32_1302 : BitVec 32 := 1#32
  let v1655 : BitVec 32 := Scalar.select v1654 c1_i32_1302 c32_i32_1300
  let v1656 : BitVec 32 := Scalar.remsi v1653 v1655
  let c0_i32_1304 : BitVec 32 := 0#32
  let v1658 : BitVec 1 := Scalar.cmpi .slt v1656 c0_i32_1304
  let c0_i32_1305 : BitVec 32 := 0#32
  let v1659 : BitVec 1 := Scalar.cmpi .slt v1655 c0_i32_1305
  let v1660 : BitVec 1 := Scalar.xori v1658 v1659
  let c0_i32_1303 : BitVec 32 := 0#32
  let v1657 : BitVec 1 := Scalar.cmpi .ne v1656 c0_i32_1303
  let v1661 : BitVec 1 := Scalar.andi v1660 v1657
  let v1662 : BitVec 32 := Scalar.addi v1656 v1655
  let v1663 : BitVec 32 := Scalar.select v1661 v1662 v1656
  let c1_i32_1310 : BitVec 32 := 1#32
  let v1666 : BitVec 32 := Scalar.muli v1663 c1_i32_1310
  let v1667 : BitVec 32 := Scalar.addi c0_i32_1311 v1666
  v1667.toNat
def k0_dev65 (d0 : Dev nD) : Nat :=
  let c0_i32_1326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1314 : BitVec 32 := 3#32
  let v1674 : BitVec 32 := Scalar.addi v2 c3_i32_1314
  let c32_i32_1315 : BitVec 32 := 32#32
  let c0_i32_1316 : BitVec 32 := 0#32
  let v1675 : BitVec 1 := Scalar.cmpi .eq c32_i32_1315 c0_i32_1316
  let c1_i32_1317 : BitVec 32 := 1#32
  let v1676 : BitVec 32 := Scalar.select v1675 c1_i32_1317 c32_i32_1315
  let v1677 : BitVec 32 := Scalar.remsi v1674 v1676
  let c0_i32_1319 : BitVec 32 := 0#32
  let v1679 : BitVec 1 := Scalar.cmpi .slt v1677 c0_i32_1319
  let c0_i32_1320 : BitVec 32 := 0#32
  let v1680 : BitVec 1 := Scalar.cmpi .slt v1676 c0_i32_1320
  let v1681 : BitVec 1 := Scalar.xori v1679 v1680
  let c0_i32_1318 : BitVec 32 := 0#32
  let v1678 : BitVec 1 := Scalar.cmpi .ne v1677 c0_i32_1318
  let v1682 : BitVec 1 := Scalar.andi v1681 v1678
  let v1683 : BitVec 32 := Scalar.addi v1677 v1676
  let v1684 : BitVec 32 := Scalar.select v1682 v1683 v1677
  let c1_i32_1325 : BitVec 32 := 1#32
  let v1687 : BitVec 32 := Scalar.muli v1684 c1_i32_1325
  let v1688 : BitVec 32 := Scalar.addi c0_i32_1326 v1687
  v1688.toNat
def k0_dev66 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1329 : BitVec 32 := 4#32
  let v1695 : BitVec 32 := Scalar.addi v2 c4_i32_1329
  let c32_i32_1330 : BitVec 32 := 32#32
  let c0_i32_1331 : BitVec 32 := 0#32
  let v1696 : BitVec 1 := Scalar.cmpi .eq c32_i32_1330 c0_i32_1331
  let c1_i32_1332 : BitVec 32 := 1#32
  let v1697 : BitVec 32 := Scalar.select v1696 c1_i32_1332 c32_i32_1330
  let v1698 : BitVec 32 := Scalar.remsi v1695 v1697
  let c0_i32_1334 : BitVec 32 := 0#32
  let v1700 : BitVec 1 := Scalar.cmpi .slt v1698 c0_i32_1334
  let c0_i32_1335 : BitVec 32 := 0#32
  let v1701 : BitVec 1 := Scalar.cmpi .slt v1697 c0_i32_1335
  let v1702 : BitVec 1 := Scalar.xori v1700 v1701
  let c0_i32_1333 : BitVec 32 := 0#32
  let v1699 : BitVec 1 := Scalar.cmpi .ne v1698 c0_i32_1333
  let v1703 : BitVec 1 := Scalar.andi v1702 v1699
  let v1704 : BitVec 32 := Scalar.addi v1698 v1697
  let v1705 : BitVec 32 := Scalar.select v1703 v1704 v1698
  let c1_i32_1340 : BitVec 32 := 1#32
  let v1708 : BitVec 32 := Scalar.muli v1705 c1_i32_1340
  let v1709 : BitVec 32 := Scalar.addi c0_i32_1341 v1708
  v1709.toNat
def k0_dev67 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1344 : BitVec 32 := 5#32
  let v1716 : BitVec 32 := Scalar.addi v2 c5_i32_1344
  let c32_i32_1345 : BitVec 32 := 32#32
  let c0_i32_1346 : BitVec 32 := 0#32
  let v1717 : BitVec 1 := Scalar.cmpi .eq c32_i32_1345 c0_i32_1346
  let c1_i32_1347 : BitVec 32 := 1#32
  let v1718 : BitVec 32 := Scalar.select v1717 c1_i32_1347 c32_i32_1345
  let v1719 : BitVec 32 := Scalar.remsi v1716 v1718
  let c0_i32_1349 : BitVec 32 := 0#32
  let v1721 : BitVec 1 := Scalar.cmpi .slt v1719 c0_i32_1349
  let c0_i32_1350 : BitVec 32 := 0#32
  let v1722 : BitVec 1 := Scalar.cmpi .slt v1718 c0_i32_1350
  let v1723 : BitVec 1 := Scalar.xori v1721 v1722
  let c0_i32_1348 : BitVec 32 := 0#32
  let v1720 : BitVec 1 := Scalar.cmpi .ne v1719 c0_i32_1348
  let v1724 : BitVec 1 := Scalar.andi v1723 v1720
  let v1725 : BitVec 32 := Scalar.addi v1719 v1718
  let v1726 : BitVec 32 := Scalar.select v1724 v1725 v1719
  let c1_i32_1355 : BitVec 32 := 1#32
  let v1729 : BitVec 32 := Scalar.muli v1726 c1_i32_1355
  let v1730 : BitVec 32 := Scalar.addi c0_i32_1356 v1729
  v1730.toNat
def k0_dev68 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1359 : BitVec 32 := 6#32
  let v1737 : BitVec 32 := Scalar.addi v2 c6_i32_1359
  let c32_i32_1360 : BitVec 32 := 32#32
  let c0_i32_1361 : BitVec 32 := 0#32
  let v1738 : BitVec 1 := Scalar.cmpi .eq c32_i32_1360 c0_i32_1361
  let c1_i32_1362 : BitVec 32 := 1#32
  let v1739 : BitVec 32 := Scalar.select v1738 c1_i32_1362 c32_i32_1360
  let v1740 : BitVec 32 := Scalar.remsi v1737 v1739
  let c0_i32_1364 : BitVec 32 := 0#32
  let v1742 : BitVec 1 := Scalar.cmpi .slt v1740 c0_i32_1364
  let c0_i32_1365 : BitVec 32 := 0#32
  let v1743 : BitVec 1 := Scalar.cmpi .slt v1739 c0_i32_1365
  let v1744 : BitVec 1 := Scalar.xori v1742 v1743
  let c0_i32_1363 : BitVec 32 := 0#32
  let v1741 : BitVec 1 := Scalar.cmpi .ne v1740 c0_i32_1363
  let v1745 : BitVec 1 := Scalar.andi v1744 v1741
  let v1746 : BitVec 32 := Scalar.addi v1740 v1739
  let v1747 : BitVec 32 := Scalar.select v1745 v1746 v1740
  let c1_i32_1370 : BitVec 32 := 1#32
  let v1750 : BitVec 32 := Scalar.muli v1747 c1_i32_1370
  let v1751 : BitVec 32 := Scalar.addi c0_i32_1371 v1750
  v1751.toNat
def k0_dev69 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1374 : BitVec 32 := 7#32
  let v1758 : BitVec 32 := Scalar.addi v2 c7_i32_1374
  let c32_i32_1375 : BitVec 32 := 32#32
  let c0_i32_1376 : BitVec 32 := 0#32
  let v1759 : BitVec 1 := Scalar.cmpi .eq c32_i32_1375 c0_i32_1376
  let c1_i32_1377 : BitVec 32 := 1#32
  let v1760 : BitVec 32 := Scalar.select v1759 c1_i32_1377 c32_i32_1375
  let v1761 : BitVec 32 := Scalar.remsi v1758 v1760
  let c0_i32_1379 : BitVec 32 := 0#32
  let v1763 : BitVec 1 := Scalar.cmpi .slt v1761 c0_i32_1379
  let c0_i32_1380 : BitVec 32 := 0#32
  let v1764 : BitVec 1 := Scalar.cmpi .slt v1760 c0_i32_1380
  let v1765 : BitVec 1 := Scalar.xori v1763 v1764
  let c0_i32_1378 : BitVec 32 := 0#32
  let v1762 : BitVec 1 := Scalar.cmpi .ne v1761 c0_i32_1378
  let v1766 : BitVec 1 := Scalar.andi v1765 v1762
  let v1767 : BitVec 32 := Scalar.addi v1761 v1760
  let v1768 : BitVec 32 := Scalar.select v1766 v1767 v1761
  let c1_i32_1385 : BitVec 32 := 1#32
  let v1771 : BitVec 32 := Scalar.muli v1768 c1_i32_1385
  let v1772 : BitVec 32 := Scalar.addi c0_i32_1386 v1771
  v1772.toNat
def k0_dev70 (d0 : Dev nD) : Nat :=
  let c0_i32_1401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1389 : BitVec 32 := 8#32
  let v1779 : BitVec 32 := Scalar.addi v2 c8_i32_1389
  let c32_i32_1390 : BitVec 32 := 32#32
  let c0_i32_1391 : BitVec 32 := 0#32
  let v1780 : BitVec 1 := Scalar.cmpi .eq c32_i32_1390 c0_i32_1391
  let c1_i32_1392 : BitVec 32 := 1#32
  let v1781 : BitVec 32 := Scalar.select v1780 c1_i32_1392 c32_i32_1390
  let v1782 : BitVec 32 := Scalar.remsi v1779 v1781
  let c0_i32_1394 : BitVec 32 := 0#32
  let v1784 : BitVec 1 := Scalar.cmpi .slt v1782 c0_i32_1394
  let c0_i32_1395 : BitVec 32 := 0#32
  let v1785 : BitVec 1 := Scalar.cmpi .slt v1781 c0_i32_1395
  let v1786 : BitVec 1 := Scalar.xori v1784 v1785
  let c0_i32_1393 : BitVec 32 := 0#32
  let v1783 : BitVec 1 := Scalar.cmpi .ne v1782 c0_i32_1393
  let v1787 : BitVec 1 := Scalar.andi v1786 v1783
  let v1788 : BitVec 32 := Scalar.addi v1782 v1781
  let v1789 : BitVec 32 := Scalar.select v1787 v1788 v1782
  let c1_i32_1400 : BitVec 32 := 1#32
  let v1792 : BitVec 32 := Scalar.muli v1789 c1_i32_1400
  let v1793 : BitVec 32 := Scalar.addi c0_i32_1401 v1792
  v1793.toNat
def k0_dev71 (d0 : Dev nD) : Nat :=
  let c0_i32_1416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1404 : BitVec 32 := 9#32
  let v1800 : BitVec 32 := Scalar.addi v2 c9_i32_1404
  let c32_i32_1405 : BitVec 32 := 32#32
  let c0_i32_1406 : BitVec 32 := 0#32
  let v1801 : BitVec 1 := Scalar.cmpi .eq c32_i32_1405 c0_i32_1406
  let c1_i32_1407 : BitVec 32 := 1#32
  let v1802 : BitVec 32 := Scalar.select v1801 c1_i32_1407 c32_i32_1405
  let v1803 : BitVec 32 := Scalar.remsi v1800 v1802
  let c0_i32_1409 : BitVec 32 := 0#32
  let v1805 : BitVec 1 := Scalar.cmpi .slt v1803 c0_i32_1409
  let c0_i32_1410 : BitVec 32 := 0#32
  let v1806 : BitVec 1 := Scalar.cmpi .slt v1802 c0_i32_1410
  let v1807 : BitVec 1 := Scalar.xori v1805 v1806
  let c0_i32_1408 : BitVec 32 := 0#32
  let v1804 : BitVec 1 := Scalar.cmpi .ne v1803 c0_i32_1408
  let v1808 : BitVec 1 := Scalar.andi v1807 v1804
  let v1809 : BitVec 32 := Scalar.addi v1803 v1802
  let v1810 : BitVec 32 := Scalar.select v1808 v1809 v1803
  let c1_i32_1415 : BitVec 32 := 1#32
  let v1813 : BitVec 32 := Scalar.muli v1810 c1_i32_1415
  let v1814 : BitVec 32 := Scalar.addi c0_i32_1416 v1813
  v1814.toNat
def k0_dev72 (d0 : Dev nD) : Nat :=
  let c0_i32_1431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1419 : BitVec 32 := 10#32
  let v1821 : BitVec 32 := Scalar.addi v2 c10_i32_1419
  let c32_i32_1420 : BitVec 32 := 32#32
  let c0_i32_1421 : BitVec 32 := 0#32
  let v1822 : BitVec 1 := Scalar.cmpi .eq c32_i32_1420 c0_i32_1421
  let c1_i32_1422 : BitVec 32 := 1#32
  let v1823 : BitVec 32 := Scalar.select v1822 c1_i32_1422 c32_i32_1420
  let v1824 : BitVec 32 := Scalar.remsi v1821 v1823
  let c0_i32_1424 : BitVec 32 := 0#32
  let v1826 : BitVec 1 := Scalar.cmpi .slt v1824 c0_i32_1424
  let c0_i32_1425 : BitVec 32 := 0#32
  let v1827 : BitVec 1 := Scalar.cmpi .slt v1823 c0_i32_1425
  let v1828 : BitVec 1 := Scalar.xori v1826 v1827
  let c0_i32_1423 : BitVec 32 := 0#32
  let v1825 : BitVec 1 := Scalar.cmpi .ne v1824 c0_i32_1423
  let v1829 : BitVec 1 := Scalar.andi v1828 v1825
  let v1830 : BitVec 32 := Scalar.addi v1824 v1823
  let v1831 : BitVec 32 := Scalar.select v1829 v1830 v1824
  let c1_i32_1430 : BitVec 32 := 1#32
  let v1834 : BitVec 32 := Scalar.muli v1831 c1_i32_1430
  let v1835 : BitVec 32 := Scalar.addi c0_i32_1431 v1834
  v1835.toNat
def k0_dev73 (d0 : Dev nD) : Nat :=
  let c0_i32_1446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1434 : BitVec 32 := 11#32
  let v1842 : BitVec 32 := Scalar.addi v2 c11_i32_1434
  let c32_i32_1435 : BitVec 32 := 32#32
  let c0_i32_1436 : BitVec 32 := 0#32
  let v1843 : BitVec 1 := Scalar.cmpi .eq c32_i32_1435 c0_i32_1436
  let c1_i32_1437 : BitVec 32 := 1#32
  let v1844 : BitVec 32 := Scalar.select v1843 c1_i32_1437 c32_i32_1435
  let v1845 : BitVec 32 := Scalar.remsi v1842 v1844
  let c0_i32_1439 : BitVec 32 := 0#32
  let v1847 : BitVec 1 := Scalar.cmpi .slt v1845 c0_i32_1439
  let c0_i32_1440 : BitVec 32 := 0#32
  let v1848 : BitVec 1 := Scalar.cmpi .slt v1844 c0_i32_1440
  let v1849 : BitVec 1 := Scalar.xori v1847 v1848
  let c0_i32_1438 : BitVec 32 := 0#32
  let v1846 : BitVec 1 := Scalar.cmpi .ne v1845 c0_i32_1438
  let v1850 : BitVec 1 := Scalar.andi v1849 v1846
  let v1851 : BitVec 32 := Scalar.addi v1845 v1844
  let v1852 : BitVec 32 := Scalar.select v1850 v1851 v1845
  let c1_i32_1445 : BitVec 32 := 1#32
  let v1855 : BitVec 32 := Scalar.muli v1852 c1_i32_1445
  let v1856 : BitVec 32 := Scalar.addi c0_i32_1446 v1855
  v1856.toNat
def k0_dev74 (d0 : Dev nD) : Nat :=
  let c0_i32_1461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1449 : BitVec 32 := 12#32
  let v1863 : BitVec 32 := Scalar.addi v2 c12_i32_1449
  let c32_i32_1450 : BitVec 32 := 32#32
  let c0_i32_1451 : BitVec 32 := 0#32
  let v1864 : BitVec 1 := Scalar.cmpi .eq c32_i32_1450 c0_i32_1451
  let c1_i32_1452 : BitVec 32 := 1#32
  let v1865 : BitVec 32 := Scalar.select v1864 c1_i32_1452 c32_i32_1450
  let v1866 : BitVec 32 := Scalar.remsi v1863 v1865
  let c0_i32_1454 : BitVec 32 := 0#32
  let v1868 : BitVec 1 := Scalar.cmpi .slt v1866 c0_i32_1454
  let c0_i32_1455 : BitVec 32 := 0#32
  let v1869 : BitVec 1 := Scalar.cmpi .slt v1865 c0_i32_1455
  let v1870 : BitVec 1 := Scalar.xori v1868 v1869
  let c0_i32_1453 : BitVec 32 := 0#32
  let v1867 : BitVec 1 := Scalar.cmpi .ne v1866 c0_i32_1453
  let v1871 : BitVec 1 := Scalar.andi v1870 v1867
  let v1872 : BitVec 32 := Scalar.addi v1866 v1865
  let v1873 : BitVec 32 := Scalar.select v1871 v1872 v1866
  let c1_i32_1460 : BitVec 32 := 1#32
  let v1876 : BitVec 32 := Scalar.muli v1873 c1_i32_1460
  let v1877 : BitVec 32 := Scalar.addi c0_i32_1461 v1876
  v1877.toNat
def k0_dev75 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1464 : BitVec 32 := 13#32
  let v1884 : BitVec 32 := Scalar.addi v2 c13_i32_1464
  let c32_i32_1465 : BitVec 32 := 32#32
  let c0_i32_1466 : BitVec 32 := 0#32
  let v1885 : BitVec 1 := Scalar.cmpi .eq c32_i32_1465 c0_i32_1466
  let c1_i32_1467 : BitVec 32 := 1#32
  let v1886 : BitVec 32 := Scalar.select v1885 c1_i32_1467 c32_i32_1465
  let v1887 : BitVec 32 := Scalar.remsi v1884 v1886
  let c0_i32_1469 : BitVec 32 := 0#32
  let v1889 : BitVec 1 := Scalar.cmpi .slt v1887 c0_i32_1469
  let c0_i32_1470 : BitVec 32 := 0#32
  let v1890 : BitVec 1 := Scalar.cmpi .slt v1886 c0_i32_1470
  let v1891 : BitVec 1 := Scalar.xori v1889 v1890
  let c0_i32_1468 : BitVec 32 := 0#32
  let v1888 : BitVec 1 := Scalar.cmpi .ne v1887 c0_i32_1468
  let v1892 : BitVec 1 := Scalar.andi v1891 v1888
  let v1893 : BitVec 32 := Scalar.addi v1887 v1886
  let v1894 : BitVec 32 := Scalar.select v1892 v1893 v1887
  let c1_i32_1475 : BitVec 32 := 1#32
  let v1897 : BitVec 32 := Scalar.muli v1894 c1_i32_1475
  let v1898 : BitVec 32 := Scalar.addi c0_i32_1476 v1897
  v1898.toNat
def k0_dev76 (d0 : Dev nD) : Nat :=
  let c0_i32_1491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1479 : BitVec 32 := 14#32
  let v1905 : BitVec 32 := Scalar.addi v2 c14_i32_1479
  let c32_i32_1480 : BitVec 32 := 32#32
  let c0_i32_1481 : BitVec 32 := 0#32
  let v1906 : BitVec 1 := Scalar.cmpi .eq c32_i32_1480 c0_i32_1481
  let c1_i32_1482 : BitVec 32 := 1#32
  let v1907 : BitVec 32 := Scalar.select v1906 c1_i32_1482 c32_i32_1480
  let v1908 : BitVec 32 := Scalar.remsi v1905 v1907
  let c0_i32_1484 : BitVec 32 := 0#32
  let v1910 : BitVec 1 := Scalar.cmpi .slt v1908 c0_i32_1484
  let c0_i32_1485 : BitVec 32 := 0#32
  let v1911 : BitVec 1 := Scalar.cmpi .slt v1907 c0_i32_1485
  let v1912 : BitVec 1 := Scalar.xori v1910 v1911
  let c0_i32_1483 : BitVec 32 := 0#32
  let v1909 : BitVec 1 := Scalar.cmpi .ne v1908 c0_i32_1483
  let v1913 : BitVec 1 := Scalar.andi v1912 v1909
  let v1914 : BitVec 32 := Scalar.addi v1908 v1907
  let v1915 : BitVec 32 := Scalar.select v1913 v1914 v1908
  let c1_i32_1490 : BitVec 32 := 1#32
  let v1918 : BitVec 32 := Scalar.muli v1915 c1_i32_1490
  let v1919 : BitVec 32 := Scalar.addi c0_i32_1491 v1918
  v1919.toNat
def k0_dev77 (d0 : Dev nD) : Nat :=
  let c0_i32_1506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1494 : BitVec 32 := 15#32
  let v1926 : BitVec 32 := Scalar.addi v2 c15_i32_1494
  let c32_i32_1495 : BitVec 32 := 32#32
  let c0_i32_1496 : BitVec 32 := 0#32
  let v1927 : BitVec 1 := Scalar.cmpi .eq c32_i32_1495 c0_i32_1496
  let c1_i32_1497 : BitVec 32 := 1#32
  let v1928 : BitVec 32 := Scalar.select v1927 c1_i32_1497 c32_i32_1495
  let v1929 : BitVec 32 := Scalar.remsi v1926 v1928
  let c0_i32_1499 : BitVec 32 := 0#32
  let v1931 : BitVec 1 := Scalar.cmpi .slt v1929 c0_i32_1499
  let c0_i32_1500 : BitVec 32 := 0#32
  let v1932 : BitVec 1 := Scalar.cmpi .slt v1928 c0_i32_1500
  let v1933 : BitVec 1 := Scalar.xori v1931 v1932
  let c0_i32_1498 : BitVec 32 := 0#32
  let v1930 : BitVec 1 := Scalar.cmpi .ne v1929 c0_i32_1498
  let v1934 : BitVec 1 := Scalar.andi v1933 v1930
  let v1935 : BitVec 32 := Scalar.addi v1929 v1928
  let v1936 : BitVec 32 := Scalar.select v1934 v1935 v1929
  let c1_i32_1505 : BitVec 32 := 1#32
  let v1939 : BitVec 32 := Scalar.muli v1936 c1_i32_1505
  let v1940 : BitVec 32 := Scalar.addi c0_i32_1506 v1939
  v1940.toNat
def k0_dev78 (d0 : Dev nD) : Nat :=
  let c0_i32_1521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1509 : BitVec 32 := 16#32
  let v1947 : BitVec 32 := Scalar.addi v2 c16_i32_1509
  let c32_i32_1510 : BitVec 32 := 32#32
  let c0_i32_1511 : BitVec 32 := 0#32
  let v1948 : BitVec 1 := Scalar.cmpi .eq c32_i32_1510 c0_i32_1511
  let c1_i32_1512 : BitVec 32 := 1#32
  let v1949 : BitVec 32 := Scalar.select v1948 c1_i32_1512 c32_i32_1510
  let v1950 : BitVec 32 := Scalar.remsi v1947 v1949
  let c0_i32_1514 : BitVec 32 := 0#32
  let v1952 : BitVec 1 := Scalar.cmpi .slt v1950 c0_i32_1514
  let c0_i32_1515 : BitVec 32 := 0#32
  let v1953 : BitVec 1 := Scalar.cmpi .slt v1949 c0_i32_1515
  let v1954 : BitVec 1 := Scalar.xori v1952 v1953
  let c0_i32_1513 : BitVec 32 := 0#32
  let v1951 : BitVec 1 := Scalar.cmpi .ne v1950 c0_i32_1513
  let v1955 : BitVec 1 := Scalar.andi v1954 v1951
  let v1956 : BitVec 32 := Scalar.addi v1950 v1949
  let v1957 : BitVec 32 := Scalar.select v1955 v1956 v1950
  let c1_i32_1520 : BitVec 32 := 1#32
  let v1960 : BitVec 32 := Scalar.muli v1957 c1_i32_1520
  let v1961 : BitVec 32 := Scalar.addi c0_i32_1521 v1960
  v1961.toNat
def k0_dev79 (d0 : Dev nD) : Nat :=
  let c0_i32_1536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1524 : BitVec 32 := 17#32
  let v1968 : BitVec 32 := Scalar.addi v2 c17_i32_1524
  let c32_i32_1525 : BitVec 32 := 32#32
  let c0_i32_1526 : BitVec 32 := 0#32
  let v1969 : BitVec 1 := Scalar.cmpi .eq c32_i32_1525 c0_i32_1526
  let c1_i32_1527 : BitVec 32 := 1#32
  let v1970 : BitVec 32 := Scalar.select v1969 c1_i32_1527 c32_i32_1525
  let v1971 : BitVec 32 := Scalar.remsi v1968 v1970
  let c0_i32_1529 : BitVec 32 := 0#32
  let v1973 : BitVec 1 := Scalar.cmpi .slt v1971 c0_i32_1529
  let c0_i32_1530 : BitVec 32 := 0#32
  let v1974 : BitVec 1 := Scalar.cmpi .slt v1970 c0_i32_1530
  let v1975 : BitVec 1 := Scalar.xori v1973 v1974
  let c0_i32_1528 : BitVec 32 := 0#32
  let v1972 : BitVec 1 := Scalar.cmpi .ne v1971 c0_i32_1528
  let v1976 : BitVec 1 := Scalar.andi v1975 v1972
  let v1977 : BitVec 32 := Scalar.addi v1971 v1970
  let v1978 : BitVec 32 := Scalar.select v1976 v1977 v1971
  let c1_i32_1535 : BitVec 32 := 1#32
  let v1981 : BitVec 32 := Scalar.muli v1978 c1_i32_1535
  let v1982 : BitVec 32 := Scalar.addi c0_i32_1536 v1981
  v1982.toNat
def k0_dev80 (d0 : Dev nD) : Nat :=
  let c0_i32_1551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1539 : BitVec 32 := 18#32
  let v1989 : BitVec 32 := Scalar.addi v2 c18_i32_1539
  let c32_i32_1540 : BitVec 32 := 32#32
  let c0_i32_1541 : BitVec 32 := 0#32
  let v1990 : BitVec 1 := Scalar.cmpi .eq c32_i32_1540 c0_i32_1541
  let c1_i32_1542 : BitVec 32 := 1#32
  let v1991 : BitVec 32 := Scalar.select v1990 c1_i32_1542 c32_i32_1540
  let v1992 : BitVec 32 := Scalar.remsi v1989 v1991
  let c0_i32_1544 : BitVec 32 := 0#32
  let v1994 : BitVec 1 := Scalar.cmpi .slt v1992 c0_i32_1544
  let c0_i32_1545 : BitVec 32 := 0#32
  let v1995 : BitVec 1 := Scalar.cmpi .slt v1991 c0_i32_1545
  let v1996 : BitVec 1 := Scalar.xori v1994 v1995
  let c0_i32_1543 : BitVec 32 := 0#32
  let v1993 : BitVec 1 := Scalar.cmpi .ne v1992 c0_i32_1543
  let v1997 : BitVec 1 := Scalar.andi v1996 v1993
  let v1998 : BitVec 32 := Scalar.addi v1992 v1991
  let v1999 : BitVec 32 := Scalar.select v1997 v1998 v1992
  let c1_i32_1550 : BitVec 32 := 1#32
  let v2002 : BitVec 32 := Scalar.muli v1999 c1_i32_1550
  let v2003 : BitVec 32 := Scalar.addi c0_i32_1551 v2002
  v2003.toNat
def k0_dev81 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1554 : BitVec 32 := 19#32
  let v2010 : BitVec 32 := Scalar.addi v2 c19_i32_1554
  let c32_i32_1555 : BitVec 32 := 32#32
  let c0_i32_1556 : BitVec 32 := 0#32
  let v2011 : BitVec 1 := Scalar.cmpi .eq c32_i32_1555 c0_i32_1556
  let c1_i32_1557 : BitVec 32 := 1#32
  let v2012 : BitVec 32 := Scalar.select v2011 c1_i32_1557 c32_i32_1555
  let v2013 : BitVec 32 := Scalar.remsi v2010 v2012
  let c0_i32_1559 : BitVec 32 := 0#32
  let v2015 : BitVec 1 := Scalar.cmpi .slt v2013 c0_i32_1559
  let c0_i32_1560 : BitVec 32 := 0#32
  let v2016 : BitVec 1 := Scalar.cmpi .slt v2012 c0_i32_1560
  let v2017 : BitVec 1 := Scalar.xori v2015 v2016
  let c0_i32_1558 : BitVec 32 := 0#32
  let v2014 : BitVec 1 := Scalar.cmpi .ne v2013 c0_i32_1558
  let v2018 : BitVec 1 := Scalar.andi v2017 v2014
  let v2019 : BitVec 32 := Scalar.addi v2013 v2012
  let v2020 : BitVec 32 := Scalar.select v2018 v2019 v2013
  let c1_i32_1565 : BitVec 32 := 1#32
  let v2023 : BitVec 32 := Scalar.muli v2020 c1_i32_1565
  let v2024 : BitVec 32 := Scalar.addi c0_i32_1566 v2023
  v2024.toNat
def k0_dev82 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1569 : BitVec 32 := 20#32
  let v2031 : BitVec 32 := Scalar.addi v2 c20_i32_1569
  let c32_i32_1570 : BitVec 32 := 32#32
  let c0_i32_1571 : BitVec 32 := 0#32
  let v2032 : BitVec 1 := Scalar.cmpi .eq c32_i32_1570 c0_i32_1571
  let c1_i32_1572 : BitVec 32 := 1#32
  let v2033 : BitVec 32 := Scalar.select v2032 c1_i32_1572 c32_i32_1570
  let v2034 : BitVec 32 := Scalar.remsi v2031 v2033
  let c0_i32_1574 : BitVec 32 := 0#32
  let v2036 : BitVec 1 := Scalar.cmpi .slt v2034 c0_i32_1574
  let c0_i32_1575 : BitVec 32 := 0#32
  let v2037 : BitVec 1 := Scalar.cmpi .slt v2033 c0_i32_1575
  let v2038 : BitVec 1 := Scalar.xori v2036 v2037
  let c0_i32_1573 : BitVec 32 := 0#32
  let v2035 : BitVec 1 := Scalar.cmpi .ne v2034 c0_i32_1573
  let v2039 : BitVec 1 := Scalar.andi v2038 v2035
  let v2040 : BitVec 32 := Scalar.addi v2034 v2033
  let v2041 : BitVec 32 := Scalar.select v2039 v2040 v2034
  let c1_i32_1580 : BitVec 32 := 1#32
  let v2044 : BitVec 32 := Scalar.muli v2041 c1_i32_1580
  let v2045 : BitVec 32 := Scalar.addi c0_i32_1581 v2044
  v2045.toNat
def k0_dev83 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1584 : BitVec 32 := 21#32
  let v2052 : BitVec 32 := Scalar.addi v2 c21_i32_1584
  let c32_i32_1585 : BitVec 32 := 32#32
  let c0_i32_1586 : BitVec 32 := 0#32
  let v2053 : BitVec 1 := Scalar.cmpi .eq c32_i32_1585 c0_i32_1586
  let c1_i32_1587 : BitVec 32 := 1#32
  let v2054 : BitVec 32 := Scalar.select v2053 c1_i32_1587 c32_i32_1585
  let v2055 : BitVec 32 := Scalar.remsi v2052 v2054
  let c0_i32_1589 : BitVec 32 := 0#32
  let v2057 : BitVec 1 := Scalar.cmpi .slt v2055 c0_i32_1589
  let c0_i32_1590 : BitVec 32 := 0#32
  let v2058 : BitVec 1 := Scalar.cmpi .slt v2054 c0_i32_1590
  let v2059 : BitVec 1 := Scalar.xori v2057 v2058
  let c0_i32_1588 : BitVec 32 := 0#32
  let v2056 : BitVec 1 := Scalar.cmpi .ne v2055 c0_i32_1588
  let v2060 : BitVec 1 := Scalar.andi v2059 v2056
  let v2061 : BitVec 32 := Scalar.addi v2055 v2054
  let v2062 : BitVec 32 := Scalar.select v2060 v2061 v2055
  let c1_i32_1595 : BitVec 32 := 1#32
  let v2065 : BitVec 32 := Scalar.muli v2062 c1_i32_1595
  let v2066 : BitVec 32 := Scalar.addi c0_i32_1596 v2065
  v2066.toNat
def k0_dev84 (d0 : Dev nD) : Nat :=
  let c0_i32_1611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1599 : BitVec 32 := 22#32
  let v2073 : BitVec 32 := Scalar.addi v2 c22_i32_1599
  let c32_i32_1600 : BitVec 32 := 32#32
  let c0_i32_1601 : BitVec 32 := 0#32
  let v2074 : BitVec 1 := Scalar.cmpi .eq c32_i32_1600 c0_i32_1601
  let c1_i32_1602 : BitVec 32 := 1#32
  let v2075 : BitVec 32 := Scalar.select v2074 c1_i32_1602 c32_i32_1600
  let v2076 : BitVec 32 := Scalar.remsi v2073 v2075
  let c0_i32_1604 : BitVec 32 := 0#32
  let v2078 : BitVec 1 := Scalar.cmpi .slt v2076 c0_i32_1604
  let c0_i32_1605 : BitVec 32 := 0#32
  let v2079 : BitVec 1 := Scalar.cmpi .slt v2075 c0_i32_1605
  let v2080 : BitVec 1 := Scalar.xori v2078 v2079
  let c0_i32_1603 : BitVec 32 := 0#32
  let v2077 : BitVec 1 := Scalar.cmpi .ne v2076 c0_i32_1603
  let v2081 : BitVec 1 := Scalar.andi v2080 v2077
  let v2082 : BitVec 32 := Scalar.addi v2076 v2075
  let v2083 : BitVec 32 := Scalar.select v2081 v2082 v2076
  let c1_i32_1610 : BitVec 32 := 1#32
  let v2086 : BitVec 32 := Scalar.muli v2083 c1_i32_1610
  let v2087 : BitVec 32 := Scalar.addi c0_i32_1611 v2086
  v2087.toNat
def k0_dev85 (d0 : Dev nD) : Nat :=
  let c0_i32_1626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1614 : BitVec 32 := 23#32
  let v2094 : BitVec 32 := Scalar.addi v2 c23_i32_1614
  let c32_i32_1615 : BitVec 32 := 32#32
  let c0_i32_1616 : BitVec 32 := 0#32
  let v2095 : BitVec 1 := Scalar.cmpi .eq c32_i32_1615 c0_i32_1616
  let c1_i32_1617 : BitVec 32 := 1#32
  let v2096 : BitVec 32 := Scalar.select v2095 c1_i32_1617 c32_i32_1615
  let v2097 : BitVec 32 := Scalar.remsi v2094 v2096
  let c0_i32_1619 : BitVec 32 := 0#32
  let v2099 : BitVec 1 := Scalar.cmpi .slt v2097 c0_i32_1619
  let c0_i32_1620 : BitVec 32 := 0#32
  let v2100 : BitVec 1 := Scalar.cmpi .slt v2096 c0_i32_1620
  let v2101 : BitVec 1 := Scalar.xori v2099 v2100
  let c0_i32_1618 : BitVec 32 := 0#32
  let v2098 : BitVec 1 := Scalar.cmpi .ne v2097 c0_i32_1618
  let v2102 : BitVec 1 := Scalar.andi v2101 v2098
  let v2103 : BitVec 32 := Scalar.addi v2097 v2096
  let v2104 : BitVec 32 := Scalar.select v2102 v2103 v2097
  let c1_i32_1625 : BitVec 32 := 1#32
  let v2107 : BitVec 32 := Scalar.muli v2104 c1_i32_1625
  let v2108 : BitVec 32 := Scalar.addi c0_i32_1626 v2107
  v2108.toNat
def k0_dev86 (d0 : Dev nD) : Nat :=
  let c0_i32_1641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1629 : BitVec 32 := 24#32
  let v2115 : BitVec 32 := Scalar.addi v2 c24_i32_1629
  let c32_i32_1630 : BitVec 32 := 32#32
  let c0_i32_1631 : BitVec 32 := 0#32
  let v2116 : BitVec 1 := Scalar.cmpi .eq c32_i32_1630 c0_i32_1631
  let c1_i32_1632 : BitVec 32 := 1#32
  let v2117 : BitVec 32 := Scalar.select v2116 c1_i32_1632 c32_i32_1630
  let v2118 : BitVec 32 := Scalar.remsi v2115 v2117
  let c0_i32_1634 : BitVec 32 := 0#32
  let v2120 : BitVec 1 := Scalar.cmpi .slt v2118 c0_i32_1634
  let c0_i32_1635 : BitVec 32 := 0#32
  let v2121 : BitVec 1 := Scalar.cmpi .slt v2117 c0_i32_1635
  let v2122 : BitVec 1 := Scalar.xori v2120 v2121
  let c0_i32_1633 : BitVec 32 := 0#32
  let v2119 : BitVec 1 := Scalar.cmpi .ne v2118 c0_i32_1633
  let v2123 : BitVec 1 := Scalar.andi v2122 v2119
  let v2124 : BitVec 32 := Scalar.addi v2118 v2117
  let v2125 : BitVec 32 := Scalar.select v2123 v2124 v2118
  let c1_i32_1640 : BitVec 32 := 1#32
  let v2128 : BitVec 32 := Scalar.muli v2125 c1_i32_1640
  let v2129 : BitVec 32 := Scalar.addi c0_i32_1641 v2128
  v2129.toNat
def k0_dev87 (d0 : Dev nD) : Nat :=
  let c0_i32_1656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1644 : BitVec 32 := 25#32
  let v2136 : BitVec 32 := Scalar.addi v2 c25_i32_1644
  let c32_i32_1645 : BitVec 32 := 32#32
  let c0_i32_1646 : BitVec 32 := 0#32
  let v2137 : BitVec 1 := Scalar.cmpi .eq c32_i32_1645 c0_i32_1646
  let c1_i32_1647 : BitVec 32 := 1#32
  let v2138 : BitVec 32 := Scalar.select v2137 c1_i32_1647 c32_i32_1645
  let v2139 : BitVec 32 := Scalar.remsi v2136 v2138
  let c0_i32_1649 : BitVec 32 := 0#32
  let v2141 : BitVec 1 := Scalar.cmpi .slt v2139 c0_i32_1649
  let c0_i32_1650 : BitVec 32 := 0#32
  let v2142 : BitVec 1 := Scalar.cmpi .slt v2138 c0_i32_1650
  let v2143 : BitVec 1 := Scalar.xori v2141 v2142
  let c0_i32_1648 : BitVec 32 := 0#32
  let v2140 : BitVec 1 := Scalar.cmpi .ne v2139 c0_i32_1648
  let v2144 : BitVec 1 := Scalar.andi v2143 v2140
  let v2145 : BitVec 32 := Scalar.addi v2139 v2138
  let v2146 : BitVec 32 := Scalar.select v2144 v2145 v2139
  let c1_i32_1655 : BitVec 32 := 1#32
  let v2149 : BitVec 32 := Scalar.muli v2146 c1_i32_1655
  let v2150 : BitVec 32 := Scalar.addi c0_i32_1656 v2149
  v2150.toNat
def k0_dev88 (d0 : Dev nD) : Nat :=
  let c0_i32_1671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1659 : BitVec 32 := 26#32
  let v2157 : BitVec 32 := Scalar.addi v2 c26_i32_1659
  let c32_i32_1660 : BitVec 32 := 32#32
  let c0_i32_1661 : BitVec 32 := 0#32
  let v2158 : BitVec 1 := Scalar.cmpi .eq c32_i32_1660 c0_i32_1661
  let c1_i32_1662 : BitVec 32 := 1#32
  let v2159 : BitVec 32 := Scalar.select v2158 c1_i32_1662 c32_i32_1660
  let v2160 : BitVec 32 := Scalar.remsi v2157 v2159
  let c0_i32_1664 : BitVec 32 := 0#32
  let v2162 : BitVec 1 := Scalar.cmpi .slt v2160 c0_i32_1664
  let c0_i32_1665 : BitVec 32 := 0#32
  let v2163 : BitVec 1 := Scalar.cmpi .slt v2159 c0_i32_1665
  let v2164 : BitVec 1 := Scalar.xori v2162 v2163
  let c0_i32_1663 : BitVec 32 := 0#32
  let v2161 : BitVec 1 := Scalar.cmpi .ne v2160 c0_i32_1663
  let v2165 : BitVec 1 := Scalar.andi v2164 v2161
  let v2166 : BitVec 32 := Scalar.addi v2160 v2159
  let v2167 : BitVec 32 := Scalar.select v2165 v2166 v2160
  let c1_i32_1670 : BitVec 32 := 1#32
  let v2170 : BitVec 32 := Scalar.muli v2167 c1_i32_1670
  let v2171 : BitVec 32 := Scalar.addi c0_i32_1671 v2170
  v2171.toNat
def k0_dev89 (d0 : Dev nD) : Nat :=
  let c0_i32_1686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1674 : BitVec 32 := 27#32
  let v2178 : BitVec 32 := Scalar.addi v2 c27_i32_1674
  let c32_i32_1675 : BitVec 32 := 32#32
  let c0_i32_1676 : BitVec 32 := 0#32
  let v2179 : BitVec 1 := Scalar.cmpi .eq c32_i32_1675 c0_i32_1676
  let c1_i32_1677 : BitVec 32 := 1#32
  let v2180 : BitVec 32 := Scalar.select v2179 c1_i32_1677 c32_i32_1675
  let v2181 : BitVec 32 := Scalar.remsi v2178 v2180
  let c0_i32_1679 : BitVec 32 := 0#32
  let v2183 : BitVec 1 := Scalar.cmpi .slt v2181 c0_i32_1679
  let c0_i32_1680 : BitVec 32 := 0#32
  let v2184 : BitVec 1 := Scalar.cmpi .slt v2180 c0_i32_1680
  let v2185 : BitVec 1 := Scalar.xori v2183 v2184
  let c0_i32_1678 : BitVec 32 := 0#32
  let v2182 : BitVec 1 := Scalar.cmpi .ne v2181 c0_i32_1678
  let v2186 : BitVec 1 := Scalar.andi v2185 v2182
  let v2187 : BitVec 32 := Scalar.addi v2181 v2180
  let v2188 : BitVec 32 := Scalar.select v2186 v2187 v2181
  let c1_i32_1685 : BitVec 32 := 1#32
  let v2191 : BitVec 32 := Scalar.muli v2188 c1_i32_1685
  let v2192 : BitVec 32 := Scalar.addi c0_i32_1686 v2191
  v2192.toNat
def k0_dev90 (d0 : Dev nD) : Nat :=
  let c0_i32_1701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1689 : BitVec 32 := 28#32
  let v2199 : BitVec 32 := Scalar.addi v2 c28_i32_1689
  let c32_i32_1690 : BitVec 32 := 32#32
  let c0_i32_1691 : BitVec 32 := 0#32
  let v2200 : BitVec 1 := Scalar.cmpi .eq c32_i32_1690 c0_i32_1691
  let c1_i32_1692 : BitVec 32 := 1#32
  let v2201 : BitVec 32 := Scalar.select v2200 c1_i32_1692 c32_i32_1690
  let v2202 : BitVec 32 := Scalar.remsi v2199 v2201
  let c0_i32_1694 : BitVec 32 := 0#32
  let v2204 : BitVec 1 := Scalar.cmpi .slt v2202 c0_i32_1694
  let c0_i32_1695 : BitVec 32 := 0#32
  let v2205 : BitVec 1 := Scalar.cmpi .slt v2201 c0_i32_1695
  let v2206 : BitVec 1 := Scalar.xori v2204 v2205
  let c0_i32_1693 : BitVec 32 := 0#32
  let v2203 : BitVec 1 := Scalar.cmpi .ne v2202 c0_i32_1693
  let v2207 : BitVec 1 := Scalar.andi v2206 v2203
  let v2208 : BitVec 32 := Scalar.addi v2202 v2201
  let v2209 : BitVec 32 := Scalar.select v2207 v2208 v2202
  let c1_i32_1700 : BitVec 32 := 1#32
  let v2212 : BitVec 32 := Scalar.muli v2209 c1_i32_1700
  let v2213 : BitVec 32 := Scalar.addi c0_i32_1701 v2212
  v2213.toNat
def k0_dev91 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1704 : BitVec 32 := 29#32
  let v2220 : BitVec 32 := Scalar.addi v2 c29_i32_1704
  let c32_i32_1705 : BitVec 32 := 32#32
  let c0_i32_1706 : BitVec 32 := 0#32
  let v2221 : BitVec 1 := Scalar.cmpi .eq c32_i32_1705 c0_i32_1706
  let c1_i32_1707 : BitVec 32 := 1#32
  let v2222 : BitVec 32 := Scalar.select v2221 c1_i32_1707 c32_i32_1705
  let v2223 : BitVec 32 := Scalar.remsi v2220 v2222
  let c0_i32_1709 : BitVec 32 := 0#32
  let v2225 : BitVec 1 := Scalar.cmpi .slt v2223 c0_i32_1709
  let c0_i32_1710 : BitVec 32 := 0#32
  let v2226 : BitVec 1 := Scalar.cmpi .slt v2222 c0_i32_1710
  let v2227 : BitVec 1 := Scalar.xori v2225 v2226
  let c0_i32_1708 : BitVec 32 := 0#32
  let v2224 : BitVec 1 := Scalar.cmpi .ne v2223 c0_i32_1708
  let v2228 : BitVec 1 := Scalar.andi v2227 v2224
  let v2229 : BitVec 32 := Scalar.addi v2223 v2222
  let v2230 : BitVec 32 := Scalar.select v2228 v2229 v2223
  let c1_i32_1715 : BitVec 32 := 1#32
  let v2233 : BitVec 32 := Scalar.muli v2230 c1_i32_1715
  let v2234 : BitVec 32 := Scalar.addi c0_i32_1716 v2233
  v2234.toNat
def k0_dev92 (d0 : Dev nD) : Nat :=
  let c0_i32_1731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1719 : BitVec 32 := 30#32
  let v2241 : BitVec 32 := Scalar.addi v2 c30_i32_1719
  let c32_i32_1720 : BitVec 32 := 32#32
  let c0_i32_1721 : BitVec 32 := 0#32
  let v2242 : BitVec 1 := Scalar.cmpi .eq c32_i32_1720 c0_i32_1721
  let c1_i32_1722 : BitVec 32 := 1#32
  let v2243 : BitVec 32 := Scalar.select v2242 c1_i32_1722 c32_i32_1720
  let v2244 : BitVec 32 := Scalar.remsi v2241 v2243
  let c0_i32_1724 : BitVec 32 := 0#32
  let v2246 : BitVec 1 := Scalar.cmpi .slt v2244 c0_i32_1724
  let c0_i32_1725 : BitVec 32 := 0#32
  let v2247 : BitVec 1 := Scalar.cmpi .slt v2243 c0_i32_1725
  let v2248 : BitVec 1 := Scalar.xori v2246 v2247
  let c0_i32_1723 : BitVec 32 := 0#32
  let v2245 : BitVec 1 := Scalar.cmpi .ne v2244 c0_i32_1723
  let v2249 : BitVec 1 := Scalar.andi v2248 v2245
  let v2250 : BitVec 32 := Scalar.addi v2244 v2243
  let v2251 : BitVec 32 := Scalar.select v2249 v2250 v2244
  let c1_i32_1730 : BitVec 32 := 1#32
  let v2254 : BitVec 32 := Scalar.muli v2251 c1_i32_1730
  let v2255 : BitVec 32 := Scalar.addi c0_i32_1731 v2254
  v2255.toNat
def k0_dev93 (d0 : Dev nD) : Nat :=
  let c0_i32_1746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1734 : BitVec 32 := 31#32
  let v2262 : BitVec 32 := Scalar.addi v2 c31_i32_1734
  let c32_i32_1735 : BitVec 32 := 32#32
  let c0_i32_1736 : BitVec 32 := 0#32
  let v2263 : BitVec 1 := Scalar.cmpi .eq c32_i32_1735 c0_i32_1736
  let c1_i32_1737 : BitVec 32 := 1#32
  let v2264 : BitVec 32 := Scalar.select v2263 c1_i32_1737 c32_i32_1735
  let v2265 : BitVec 32 := Scalar.remsi v2262 v2264
  let c0_i32_1739 : BitVec 32 := 0#32
  let v2267 : BitVec 1 := Scalar.cmpi .slt v2265 c0_i32_1739
  let c0_i32_1740 : BitVec 32 := 0#32
  let v2268 : BitVec 1 := Scalar.cmpi .slt v2264 c0_i32_1740
  let v2269 : BitVec 1 := Scalar.xori v2267 v2268
  let c0_i32_1738 : BitVec 32 := 0#32
  let v2266 : BitVec 1 := Scalar.cmpi .ne v2265 c0_i32_1738
  let v2270 : BitVec 1 := Scalar.andi v2269 v2266
  let v2271 : BitVec 32 := Scalar.addi v2265 v2264
  let v2272 : BitVec 32 := Scalar.select v2270 v2271 v2265
  let c1_i32_1745 : BitVec 32 := 1#32
  let v2275 : BitVec 32 := Scalar.muli v2272 c1_i32_1745
  let v2276 : BitVec 32 := Scalar.addi c0_i32_1746 v2275
  v2276.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S32x512x512 : Shape := ⟨3, ![32, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S32x512x512, .f32⟩
  | .hbm, ⟨2, _⟩ => ⟨S_, .f32⟩
  | .hbm, ⟨3, _⟩ => ⟨S512x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Loops.lean ====
/-
# `Loops`: the printed kernel body is a sequence of loops over the thirty-one other devices

The printed body lists its operations one after another (about 250 of them, in 123 parts). Here the same operations are
written as loops over `j : Fin 31` (the peer `j + 1` places ahead), one program per phase, and `body_eq` says that the printed body IS
that sequence. Every later module reasons about one iteration of each loop.
-/
module

public import proofs.«01_k».proof.Proof.Gen.KernelIdeal.Skeleton
public import Idealize.ShloMosaic.Lib.Pipeline.Regions

@[expose] public section

noncomputable section

namespace Cert.AllReduce

open Cert.KernelIdeal Cert.KernelIdeal.Gen
open Idealize.ShloMosaic Idealize.SL.Sem

variable {F : FTy → Type} [FloatOps F]

/-- The programs of a kernel body on a device's core. -/
abbrev KProg (F : FTy → Type) [FloatOps F] : Type 1 := Prog (TpuEff nD τ sig (Elt F) Λ₀ .tc) PUnit

/-- Run `f` on each element of the list, in order. -/
def each {E : Type → Type} : List (Fin 31) → (Fin 31 → Prog E PUnit) → Prog E PUnit
  | [], _ => pure ⟨⟩
  | j :: js, f => f j >>= fun _ => each js f

/-! ## The peer `j + 1` places ahead, as the kernel computes it -/

/-- The number `(d + w) mod 32` by the kernel's own word arithmetic (a floor modulus). -/
def peerWord (d : Dev nD) (w : BitVec 32) : BitVec 32 :=
  let n := Scalar.select (Scalar.cmpi .eq 32#32 0#32) 1#32 32#32
  let r := Scalar.remsi (Scalar.addi (Scalar.remsi (Scalar.divsi (Dev.word d) 1#32) 32#32) w) n
  Scalar.select
    (Scalar.andi (Scalar.xori (Scalar.cmpi .slt r 0#32) (Scalar.cmpi .slt n 0#32)) (Scalar.cmpi .ne r 0#32))
    (Scalar.addi r n) r

/-- The device number the kernel addresses. -/
def peerId (d : Dev nD) (w : BitVec 32) : ℕ := (Scalar.addi 0#32 (Scalar.muli (peerWord d w) 1#32)).toNat

/-- The offset `j + 1` as a word. -/
abbrev offWord (j : Fin 31) : BitVec 32 := BitVec.ofNat 32 (1 + j.val)

/-- The device `j + 1` places ahead of `c`, round the thirty-two. -/
def ahead (c : Dev nD) (j : Fin 31) : Dev nD := ⟨(c.val + (1 + j.val)) % 32, Nat.mod_lt _ (by decide)⟩

/-- The number the kernel computes is the device that many places ahead, -/
theorem peerId_eq : ∀ (c : Dev nD) (j : Fin 31), peerId c (offWord j) = (c.val + (1 + j.val)) % 32 := by decide +kernel

/-- a device of the mesh. -/
theorem peerId_lt (c : Dev nD) (j : Fin 31) : peerId c (offWord j) < nD := by
  rw [peerId_eq]; exact Nat.mod_lt _ (by decide)

/-- The peer as the kernel addresses it. -/
def peer (c : Dev nD) (j : Fin 31) : Dev nD := ⟨peerId c (offWord j), peerId_lt c j⟩

/-- So the peer is `ahead`. -/
theorem peer_eq (c : Dev nD) (j : Fin 31) : peer c j = ahead c j := Fin.ext (peerId_eq c j)

/-- The rows of the peer's chunk start at sixteen times the peer's number. -/
theorem off1_eq (c : Dev nD) (j : Fin 31) : k0_off1 c (offWord j) = ![16 * (ahead c j).val, 0] := by
  revert c j; decide +kernel

/-! ## The views an iteration names -/

/-- A semaphore lies in its array, -/
theorem inb_sem (k : ℕ) (hk : k < 32) : ∀ a, (![k] : Fin 1 → ℕ) a + S1.size a ≤ S32.size a := by
  intro a; fin_cases a; exact hk

/-- a slot in the receive buffer. -/
theorem inb_slot (k : ℕ) (hk : k < 32) : ∀ a, (![k, 0, 0] : Fin 3 → ℕ) a + S1x16x512.size a ≤ S32x16x512.size a := by
  intro a; fin_cases a
  · exact hk
  · exact le_refl _
  · exact le_refl _

/-- Semaphore `k` of an array of thirty-two. -/
abbrev semAt (q : DmaSems sig S32) (k : ℕ) (hk : k < 32) : DmaSem sig :=
  ((q.slice (Rect.unit (s := S32) ![k] S1.size (inb_sem k hk))).squeeze S_ squeezes_S1_S_).sem

/-- Slot `k` of the receive buffer. -/
abbrev slotView (a2 : Memref sig .tc .vmem S32x16x512 .f32) (k : ℕ) (hk : k < 32) : Memref sig .tc .vmem S16x512 .f32 :=
  (a2.slice (Rect.unit (s := S32x16x512) ![k, 0, 0] S1x16x512.size (inb_slot k hk)) (fun _ => rfl)).squeeze
    S16x512 squeezes_S1x16x512_S16x512

/-- The peer's chunk of a whole array of 512 rows. -/
abbrev peerChunk (a : Memref sig .tc .vmem S512x512 .f32) (c : Dev nD) (j : Fin 31) : Memref sig .tc .vmem S16x512 .f32 :=
  a.slice (Rect.unit (s := S512x512) (k0_off1 c (offWord j)) S16x512.size (k0_off1_inb c j)) (fun _ => rfl)

/-- The device's own chunk of a whole array of 512 rows. -/
abbrev ownChunk (a : Memref sig .tc .vmem S512x512 .f32) (c : Dev nD) : Memref sig .tc .vmem S16x512 .f32 :=
  a.slice (Rect.unit (s := S512x512) (k0_off3 c) S16x512.size (k0_off3_inb c)) (fun _ => rfl)

/-- The first chunk of a whole array of 512 rows (named by waits, for its size only). -/
abbrev firstChunk (a : Memref sig .tc .vmem S512x512 .f32) : Memref sig .tc .vmem S16x512 .f32 :=
  a.slice (Rect.unit (s := S512x512) ![0, 0] S16x512.size inb_S512x512_S16x512_0_0) (fun _ => rfl)

/-- Offsets counted up stay below 32, -/
theorem lt_fwd (j : Fin 31) : 1 + j.val < 32 := by omega
/-- so do offsets counted back. -/
theorem lt_back (j : Fin 31) : 31 - j.val < 32 := by omega

section Body

variable (arg0 : Memref sig .tc .vmem S512x512 .f32) (harg0 : arg0.IsWhole)
  (arg1 : Memref sig .tc .vmem S512x512 .f32) (harg1 : arg1.IsWhole)
  (arg2 : Memref sig .tc .vmem S32x16x512 .f32) (harg2 : arg2.IsWhole)
  (arg3 arg4 arg5 arg6 : DmaSems sig S32)

/-- Signal the barrier of the peer. -/
def sigStep (c : Dev nD) (j : Fin 31) : KProg F :=
  semSignalWord (peer c j) (SemArray.scalar (sig.barrier 0 rfl) : Sems sig S_).sem 1#32

/-- Wait on the own barrier for the thirty-one signals. -/
def barStep : KProg F := semWaitWord (SemArray.scalar (sig.barrier 0 rfl) : Sems sig S_).sem 31#32

/-- Start the copy of the peer's chunk of the own rows into the peer's receive buffer. -/
def rsStart (c : Dev nD) (j : Fin 31) : KProg F :=
  Prog.lift (.enqueueDma (peerChunk arg0 c j)
    (.remote (Dev.tc (peer c j)) (slotView arg2 (31 - j.val) (lt_back j)) (.dma (semAt arg3 (1 + j.val) (lt_fwd j))))
    (.dma (semAt arg4 (31 - j.val) (lt_back j)))
    (View.wordExact_bits rfl) ((View.wordExact_bits rfl).reshape _ _) ⟨⟨rfl, Or.inl rfl⟩, trivial⟩)

/-- Copy the own chunk of the own rows into slot 0 of the receive buffer. -/
def ownStep (c : Dev nD) : KProg F := do
  let v : Vec F S16x512 .f32 ← Prog.lift (.load arg0
    (Rect.unit (s := S512x512) (k0_off2 c) S16x512.size (k0_off2_inb c)).toLoadRect (View.loadsAt_vmem h_S16x512))
  let _ : Vec F S1x16x512 .f32 ← Prog.lift (.load arg2
    (Rect.unit (s := S32x16x512) ![0, 0, 0] S1x16x512.size inb_S32x16x512_S1x16x512_0_0_0).toLoadRect
    (View.loadsAt_vmem h_S1x16x512))
  Prog.lift (.store arg2
    (Rect.unit (s := S32x16x512) ![0, 0, 0] S1x16x512.size inb_S32x16x512_S1x16x512_0_0_0)
    (k0_pay1 v) Finset.univ (View.stores_vmem_bits_univ h_S1x16x512 rfl) (.inl rfl))

/-- Wait for the chunk that lands in the slot of offset `j + 1`. -/
def rsWait (j : Fin 31) : KProg F :=
  Prog.lift (.waitDma2 (semAt arg4 (31 - j.val) (lt_back j)) (firstChunk arg0) (slotView arg2 (31 - j.val) (lt_back j))
    (View.wordExact_bits rfl) ((View.wordExact_bits rfl).reshape _ _))

/-- Read slots 16 to 31 of the receive buffer. -/
def loadHigh : Prog (TpuEff nD τ sig (Elt F) Λ₀ .tc) (Vec F S16x16x512 .f32) :=
  Prog.lift (.load arg2
    (Rect.unit (s := S32x16x512) ![16, 0, 0] S16x16x512.size inb_S32x16x512_S16x16x512_16_0_0).toLoadRect
    (View.loadsAt_vmem h_S16x16x512))

/-- Read slots 0 to 15, add, and write the reduced chunk to the own rows of the result. -/
def reduceStep (c : Dev nD) (v : Vec F S16x16x512 .f32) : KProg F := do
  let w : Vec F S16x16x512 .f32 ← Prog.lift (.load arg2
    (Rect.unit (s := S32x16x512) ![0, 0, 0] S16x16x512.size inb_S32x16x512_S16x16x512_0_0_0).toLoadRect
    (View.loadsAt_vmem h_S16x16x512))
  let _ : Vec F S16x512 .f32 ← Prog.lift (.load arg1
    (Rect.unit (s := S512x512) (k0_off2 c) S16x512.size (k0_off2_inb c)).toLoadRect (View.loadsAt_vmem h_S16x512))
  Prog.lift (.store arg1 (Rect.unit (s := S512x512) (k0_off2 c) S16x512.size (k0_off2_inb c))
    (k0_pay3 (k0_pay2 v) w) Finset.univ (View.stores_vmem_bits_univ h_S16x512 rfl) (.inl rfl))

/-- Start the copy of the own reduced chunk into the peer's result. -/
def agStart (c : Dev nD) (j : Fin 31) : KProg F :=
  Prog.lift (.enqueueDma (ownChunk arg1 c)
    (.remote (Dev.tc (peer c j)) (ownChunk arg1 c) (.dma (semAt arg5 (1 + j.val) (lt_fwd j))))
    (.dma (semAt arg6 (31 - j.val) (lt_back j)))
    (View.wordExact_bits rfl) (View.wordExact_bits rfl) ⟨⟨rfl, Or.inl rfl⟩, trivial⟩)

/-- Wait for the peer's reduced chunk. -/
def agWait (c : Dev nD) (j : Fin 31) : KProg F :=
  Prog.lift (.waitDma2 (semAt arg6 (31 - j.val) (lt_back j)) (ownChunk arg1 c) (peerChunk arg1 c j)
    (View.wordExact_bits rfl) (View.wordExact_bits rfl))

/-- Wait for the two copies to the peer to have left. -/
def sentWait (c : Dev nD) (j : Fin 31) : KProg F := do
  Prog.lift (.waitDma2 (semAt arg3 (1 + j.val) (lt_fwd j)) (slotView arg2 (31 - j.val) (lt_back j)) (firstChunk arg0)
    ((View.wordExact_bits rfl).reshape _ _) (View.wordExact_bits rfl))
  Prog.lift (.waitDma2 (semAt arg5 (1 + j.val) (lt_fwd j)) (peerChunk arg1 c j) (ownChunk arg1 c)
    (View.wordExact_bits rfl) (View.wordExact_bits rfl))

/-- The offsets 1 to 31. -/
def offs : List (Fin 31) := [0, 1, 2, 3, 4, 5, 6, 7, 8, 9, 10, 11, 12, 13, 14, 15, 16, 17, 18, 19, 20, 21, 22, 23, 24, 25, 26,
  27, 28, 29, 30]
/-- The offsets 1 to 16, whose chunks land in slots 31 to 16. -/
def offsA : List (Fin 31) := [0, 1, 2, 3, 4, 5, 6, 7, 8, 9, 10, 11, 12, 13, 14, 15]
/-- The offsets 17 to 31, whose chunks land in slots 15 to 1. -/
def offsB : List (Fin 31) := [16, 17, 18, 19, 20, 21, 22, 23, 24, 25, 26, 27, 28, 29, 30]

/-- The kernel body as loops, the phases in order. -/
def loops : KProg F := do
  let c : Dev nD ← Prog.lift .deviceId
  each offs (sigStep c)
  barStep
  each offs (rsStart arg0 arg2 arg3 arg4 c)
  ownStep arg0 arg2 c
  each offsA (rsWait arg0 arg2 arg4)
  let v ← loadHigh arg2
  each offsB (rsWait arg0 arg2 arg4)
  reduceStep arg1 arg2 c v
  each offs (agStart arg1 arg5 arg6 c)
  each offs (agWait arg1 arg6 c)
  each offs (sentWait arg0 arg1 arg2 arg3 arg5 c)

/-- The printed kernel body is `loops`. -/
theorem body_eq :
    cc0_body (F := F) arg0 harg0 arg1 harg1 arg2 harg2 arg3 arg4 arg5 arg6
      = loops arg0 arg1 arg2 arg3 arg4 arg5 arg6 := by
  chain_rfl

end Body

end Cert.AllReduce

end
-- ==== Proof.Cells.lean ====
/-
# `Cells`: the buffers' pieces, the semaphore cells, and what each buffer holds

Each device has three buffers of its core in play: `x` (its 512 rows of the input), the result (512 rows) and the receive buffer (32 slots of 16 rows).
A chunk is 16 rows; chunk `p` of the result is device `p`'s to reduce. This module names the chunks and the slots as sets of indices, the semaphores of
the four arrays of thirty-two and the barrier, and the contents that the buffers reach:

* `rsAll c`: the receive buffer of device `c` once all has arrived. Slot `k` holds chunk `c` of device `c + k`.
* `redAt p`: the reduced chunk of device `p`, as the kernel computes it from `rsAll p`.
* `outAll`: the result, the same on every device. Chunk `p` is `redAt p`.
-/
module

public import proofs.«01_k».proof.Proof.Loops
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.Tactic

@[expose] public section

noncomputable section

namespace Cert.AllReduce

open Cert.KernelIdeal Cert.KernelIdeal.Gen
open Idealize.ShloMosaic
open Idealize.ShloMosaic.TcCoe
open Idealize.ShloMosaic.ValueIdx
open Idealize.SL.Sem

variable {F : FTy → Type} [FloatOps F]

/-! ## Devices round the mesh -/

/-- The device `k` places ahead of `c`. -/
def sh (c : Dev nD) (k : ℕ) : Dev nD := ⟨(c.val + k) % 32, Nat.mod_lt _ (by decide)⟩

/-- No place ahead is the device itself. -/
theorem sh_zero (c : Dev nD) : sh c 0 = c := by revert c; decide +kernel

/-- Going ahead by one offset and then by the offset that completes thirty-two comes back. -/
theorem ahead_rev : ∀ (c : Dev nD) (j : Fin 31), ahead (ahead c j) (Fin.rev j) = c := by decide +kernel

/-- The peer of offset index `j` is `j + 1` places ahead. -/
theorem ahead_eq_sh (c : Dev nD) (j : Fin 31) : ahead c j = sh c (j.succ : Fin 32).val := by revert c j; decide +kernel

/-- Different offsets lead to different devices. -/
theorem ahead_inj : ∀ (c : Dev nD) (j k : Fin 31), ahead c j = ahead c k → j = k := by decide +kernel

/-- Going ahead by a fixed offset is a permutation of the devices. -/
def aheadEquiv (j : Fin 31) : Dev nD ≃ Dev nD :=
  ⟨fun c => ahead c j, fun c => ahead c (Fin.rev j), fun c => ahead_rev c j,
    fun c => by have := ahead_rev c (Fin.rev j); rwa [Fin.rev_rev] at this⟩

/-! ## Chunks and slots -/

abbrev xM : Memref sig .tc .vmem S512x512 .f32 := Memref.whole cc0_stg0_0
/-- The result's buffer, -/
abbrev oM : Memref sig .tc .vmem S512x512 .f32 := Memref.whole cc0_stg1_0
/-- the receive buffer. -/
abbrev rM : Memref sig .tc .vmem S32x16x512 .f32 := Memref.whole cc0_scratch0

/-- A chunk lies within the rows. -/
theorem inb_chunk (p : Dev nD) : ∀ a, (![16 * p.val, 0] : Fin 2 → ℕ) a + S16x512.size a ≤ S512x512.size a := by
  intro a
  have hp : p.val < 32 := p.isLt
  fin_cases a
  · show 16 * p.val + 16 ≤ 512; omega
  · exact le_refl _

/-- The rows of chunk `p`. -/
abbrev chunkRect (p : Dev nD) : Rect S512x512 := Rect.unit (s := S512x512) ![16 * p.val, 0] S16x512.size (inb_chunk p)
/-- The rows of slot `k`. -/
abbrev slotRect (k : Fin 32) : Rect S32x16x512 :=
  Rect.unit (s := S32x16x512) ![k.val, 0, 0] S1x16x512.size (inb_slot k.val k.isLt)

/-- The elements of chunk `p`, -/
def chunkSet (p : Dev nD) : Finset S512x512.Idx := (chunkRect p).set
/-- and of slot `k`. -/
def slotSet (k : Fin 32) : Finset S32x16x512.Idx := (slotRect k).set

/-- Row `r` of chunk `p`, at column `k`. -/
def rowIx (p : Dev nD) (r : Fin 16) (k : Fin 512) : S512x512.Idx :=
  ix2 (⟨16 * p.val + r.val, by have hr := r.isLt; have hp : p.val < 32 := p.isLt; omega⟩ : Fin 512) k

/-- The chunk an element lies in, -/
def chunkOf (i : S512x512.Idx) : Dev nD := ⟨(i 0).val / 16, by have : (i 0).val < 512 := (i 0).isLt; show _ < 32; omega⟩
/-- and its place in that chunk. -/
def inChunk (i : S512x512.Idx) : S16x512.Idx := ix2 (⟨(i 0).val % 16, Nat.mod_lt _ (by decide)⟩ : Fin 16) (i 1)

/-- An element is in chunk `p` when `p` is the chunk it lies in. -/
theorem mem_chunkSet {p : Dev nD} {i : S512x512.Idx} : i ∈ chunkSet p ↔ chunkOf i = p := by
  unfold chunkSet chunkRect
  rw [Rect.mem_set_unit]
  have h1 : (i 1).val < 512 := (i 1).isLt
  constructor
  · intro h
    have h0 : 16 * p.val ≤ (i 0).val ∧ (i 0).val < 16 * p.val + 16 := h 0
    exact Fin.ext (by show (i 0).val / 16 = p.val; omega)
  · rintro rfl a
    fin_cases a
    · show 16 * ((i 0).val / 16) ≤ (i 0).val ∧ (i 0).val < 16 * ((i 0).val / 16) + 16
      omega
    · show 0 ≤ (i 1).val ∧ (i 1).val < 0 + 512
      omega

/-- An element is in slot `k` when its first coordinate is `k`. -/
theorem mem_slotSet {k : Fin 32} {i : S32x16x512.Idx} : i ∈ slotSet k ↔ (i 0).val = k.val := by
  unfold slotSet slotRect
  rw [Rect.mem_set_unit]
  have h1 : (i 1).val < 16 := (i 1).isLt
  have h2 : (i 2).val < 512 := (i 2).isLt
  constructor
  · intro h
    have h0 : k.val ≤ (i 0).val ∧ (i 0).val < k.val + 1 := h 0
    omega
  · intro h a
    fin_cases a
    · show k.val ≤ (i 0).val ∧ (i 0).val < k.val + 1
      omega
    · show 0 ≤ (i 1).val ∧ (i 1).val < 0 + 16
      omega
    · show 0 ≤ (i 2).val ∧ (i 2).val < 0 + 512
      omega

/-- Different chunks share no element, -/
theorem chunk_disjoint {p q : Dev nD} (h : p ≠ q) : Disjoint (chunkSet p) (chunkSet q) :=
  Finset.disjoint_left.mpr fun _ hp hq => h ((mem_chunkSet.mp hp).symm.trans (mem_chunkSet.mp hq))

/-- nor do different slots. -/
theorem slot_disjoint {k l : Fin 32} (h : k ≠ l) : Disjoint (slotSet k) (slotSet l) :=
  Finset.disjoint_left.mpr fun _ hp hq => h (Fin.ext ((mem_slotSet.mp hp).symm.trans (mem_slotSet.mp hq)))

/-- The chunks make up the whole array, -/
theorem chunk_cover : Finset.univ.biUnion chunkSet = Finset.univ :=
  Finset.eq_univ_iff_forall.mpr fun i => Finset.mem_biUnion.mpr ⟨chunkOf i, Finset.mem_univ _, mem_chunkSet.mpr rfl⟩

/-- and the slots the whole receive buffer. -/
theorem slot_cover : Finset.univ.biUnion slotSet = Finset.univ :=
  Finset.eq_univ_iff_forall.mpr fun i => Finset.mem_biUnion.mpr ⟨i 0, Finset.mem_univ _, mem_slotSet.mpr rfl⟩

/-- The element of chunk `p` at the chunk's own index `y`. -/
theorem chunk_emb (p : Dev nD) (y : S16x512.Idx) : (chunkRect p).emb y = rowIx p (y 0) (y 1) := by
  funext a
  apply Fin.ext
  fin_cases a
  · show 16 * p.val + 1 * (y 0).val = 16 * p.val + (y 0).val
    omega
  · show 0 + 1 * (y 1).val = (y 1).val
    omega

/-- A row of chunk `p` lies in chunk `p`, -/
theorem chunkOf_rowIx (p : Dev nD) (r : Fin 16) (k : Fin 512) : chunkOf (rowIx p r k) = p :=
  Fin.ext (by show (16 * p.val + r.val) / 16 = p.val; have := r.isLt; omega)

/-- at its own place there. -/
theorem inChunk_rowIx (p : Dev nD) (r : Fin 16) (k : Fin 512) : inChunk (rowIx p r k) = ix2 r k := by
  have hr : (16 * p.val + r.val) % 16 = r.val := by have := r.isLt; omega
  funext a
  apply Fin.ext
  fin_cases a
  · exact hr
  · rfl

/-! ## The views the kernel names, as chunks and slots -/

/-- Chunk `p` of a whole array. -/
abbrev chunkM (a : Memref sig .tc .vmem S512x512 .f32) (p : Dev nD) : Memref sig .tc .vmem S16x512 .f32 :=
  a.slice (chunkRect p) (fun _ => rfl)
/-- Slot `k` of the receive buffer. -/
abbrev slotM (k : Fin 32) : Memref sig .tc .vmem S16x512 .f32 := slotView rM k.val k.isLt

/-- Slices at equal offsets are equal. -/
theorem slice_at (a : Memref sig .tc .vmem S512x512 .f32) {o o' : Fin 2 → ℕ} (h : o = o')
    (hi : ∀ b, o b + S16x512.size b ≤ S512x512.size b) (hi' : ∀ b, o' b + S16x512.size b ≤ S512x512.size b) :
    (a.slice (Rect.unit (s := S512x512) o S16x512.size hi) (fun _ => rfl) : Memref sig .tc .vmem S16x512 .f32)
      = a.slice (Rect.unit (s := S512x512) o' S16x512.size hi') (fun _ => rfl) := by
  subst h; rfl

/-- The peer's chunk is the chunk of its number, -/
theorem peerChunk_eq (a : Memref sig .tc .vmem S512x512 .f32) (c : Dev nD) (j : Fin 31) :
    peerChunk a c j = chunkM a (ahead c j) := slice_at a (off1_eq c j) _ _

/-- the own chunk that of the own number. -/
theorem ownChunk_eq (a : Memref sig .tc .vmem S512x512 .f32) (c : Dev nD) : ownChunk a c = chunkM a c :=
  slice_at a (k0_off3_eq c) _ _

/-- Slots of equal numbers are equal. -/
theorem slot_of_eq {k l : ℕ} (h : k = l) (hk : k < 32) (hl : l < 32) : slotView rM k hk = slotView rM l hl := by
  subst h; rfl

/-- Counting back from 31 is the reversed offset index. -/
theorem back_eq (j : Fin 31) : 31 - j.val = ((Fin.rev j).succ : Fin 32).val := by
  rw [Fin.val_succ, Fin.val_rev]; have := j.isLt; omega
/-- The offset of index `j` is `j + 1`. -/
theorem fwd_eq (j : Fin 31) : 1 + j.val = (j.succ : Fin 32).val := by
  rw [Fin.val_succ]; omega

/-- The slot counted back from 31, by its number. -/
theorem slot_back (j : Fin 31) : slotView rM (31 - j.val) (lt_back j) = slotM (Fin.rev j).succ :=
  slot_of_eq (back_eq j) _ _

/-- The elements of a chunk of the input, -/
theorem set_chunk_x (p : Dev nD) : (chunkM xM p).view.set = chunkSet p := View.set_slice_whole cc0_stg0_0 _
/-- of the result, -/
theorem set_chunk_o (p : Dev nD) : (chunkM oM p).view.set = chunkSet p := View.set_slice_whole cc0_stg1_0 _
/-- and of a slot. -/
theorem set_slot (k : Fin 32) : (slotM k).view.set = slotSet k :=
  (View.set_reshape _ _).trans (View.set_slice_whole cc0_scratch0 _)

/-- The element of slot `k` at the slot's own index `y`. -/
theorem slot_emb (k : Fin 32) (y : S16x512.Idx) : (slotM k).view.emb y = ix3 k (y 0) (y 1) := by
  have hy : Shape.reshapeEquiv (s := S1x16x512) (s' := S16x512) squeezes_S1x16x512_S16x512.numel_eq y
      = (ix3 (⟨0, Nat.one_pos⟩ : Fin 1) (y 0) (y 1) : S1x16x512.Idx) := by
    refine Eq.trans (congrArg _ ?_) (reshapeEquiv_ix2_1ab (a := 16) (b := 512) _ (y 0) (y 1))
    funext a; fin_cases a <;> rfl
  show (slotRect k).emb (Shape.reshapeEquiv (s := S1x16x512) (s' := S16x512) squeezes_S1x16x512_S16x512.numel_eq y) = _
  rw [hy]
  funext a
  apply Fin.ext
  fin_cases a
  · show k.val + 1 * 0 = k.val
    omega
  · show 0 + 1 * (y 0).val = (y 0).val
    omega
  · show 0 + 1 * (y 1).val = (y 1).val
    omega

/-! ## The semaphores -/

/-- The runtime's barrier semaphore. -/
abbrev barS : Sem sig := (SemArray.scalar (sig.barrier 0 rfl) : Sems sig S_).sem

/-- Semaphore `k` of array `q`: 0 the departures of the first exchange, 1 its arrivals, 2 the departures of the second, 3 its arrivals. -/
def dsem (q : Fin 4) (k : Fin 32) : DmaSem sig :=
  ⟨2 + 32 * q.val + k.val, by have := q.isLt; have := k.isLt; show _ < 130; omega⟩

/-- A semaphore of a run of thirty-two is the first one's number plus its place. -/
theorem semAt_consecutive (base : ℕ) (h : base + S32.numel ≤ 130) (k : ℕ) (hk : k < 32) :
    (semAt (SemArray.consecutive base S32 h) k hk).val = base + k := by
  show base + (S32.rowMajor _ : ℕ) = base + k
  rw [Shape.rowMajor_val_one]
  congr 1
  have hz : ∀ z : Fin 1, k + 1 * z.val = k := fun z => by omega
  exact hz _

/-- The kernel's first array is array 0, -/
theorem semAt_0 (k : ℕ) (l : Fin 32) (h : k = l.val) (hk : k < 32) : semAt cc0_scratch1 k hk = dsem 0 l :=
  Fin.ext ((semAt_consecutive 2 _ k hk).trans (by subst h; rfl))
/-- its second array 1, -/
theorem semAt_1 (k : ℕ) (l : Fin 32) (h : k = l.val) (hk : k < 32) : semAt cc0_scratch2 k hk = dsem 1 l :=
  Fin.ext ((semAt_consecutive 34 _ k hk).trans (by subst h; rfl))
/-- its third array 2, -/
theorem semAt_2 (k : ℕ) (l : Fin 32) (h : k = l.val) (hk : k < 32) : semAt cc0_scratch3 k hk = dsem 2 l :=
  Fin.ext ((semAt_consecutive 66 _ k hk).trans (by subst h; rfl))
/-- its fourth array 3. -/
theorem semAt_3 (k : ℕ) (l : Fin 32) (h : k = l.val) (hk : k < 32) : semAt cc0_scratch4 k hk = dsem 3 l :=
  Fin.ext ((semAt_consecutive 98 _ k hk).trans (by subst h; rfl))

/-- A device's semaphores in play: the barrier, and the four arrays. -/
abbrev CK : Type := Unit ⊕ (Fin 4 × Fin 32)

/-- The semaphore under an index, -/
def csem : CK → SemLoc sig
  | .inl _ => .reg barS
  | .inr qk => .dma (dsem qk.1 qk.2)
/-- and the cell on a device. -/
abbrev kcell (ck : Dev nD × CK) : GSem nD τ sig := ((ck.1 : Thread nD τ), csem ck.2)

/-- The barrier's cell on device `c`, -/
abbrev barCell (c : Dev nD) : GSem nD τ sig := ((c : Thread nD τ), .reg barS)
/-- and that of semaphore `k` of array `q`. -/
abbrev dcell (c : Dev nD) (q : Fin 4) (k : Fin 32) : GSem nD τ sig := ((c : Thread nD τ), .dma (dsem q k))

/-- Array and number are read off a semaphore. -/
theorem dsem_inj {q q' : Fin 4} {k k' : Fin 32} (h : dsem q k = dsem q' k') : q = q' ∧ k = k' := by
  have h := congrArg Fin.val h
  have h : 2 + 32 * q.val + k.val = 2 + 32 * q'.val + k'.val := h
  exact ⟨Fin.ext (by omega), Fin.ext (by omega)⟩

/-- Different indices name different semaphores, -/
theorem csem_inj : Function.Injective csem := by
  rintro (⟨⟩ | ⟨q, k⟩) (⟨⟩ | ⟨q', k'⟩) h
  · rfl
  · exact absurd h (fun h => by cases h)
  · exact absurd h (fun h => by cases h)
  · have h : dsem q k = dsem q' k' := by injection h
    obtain ⟨rfl, rfl⟩ := dsem_inj h; rfl

/-- and on different devices different cells. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The units a chunk's transfer credits. -/
abbrev N : ℕ := (slotM 0).view.dmaCredit
/-- A chunk's transfer credits something. -/
theorem N_pos : 0 < N := View.dmaCredit_pos _ (by decide)

/-- Each transfer of a slot credits `N`, -/
theorem amount_slot (k : Fin 32) (q : Fin 4) (l : Fin 32) : (slotM k).view.amount (.dma (dsem q l)) = N := rfl
/-- so does each of a chunk of the result, -/
theorem amount_o (p : Dev nD) (q : Fin 4) (l : Fin 32) : (chunkM oM p).view.amount (.dma (dsem q l)) = N := rfl
/-- and each of a chunk of the input. -/
theorem amount_x (p : Dev nD) (q : Fin 4) (l : Fin 32) : (chunkM xM p).view.amount (.dma (dsem q l)) = N := rfl

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The rows of the input on device `c`. -/
def xstg (c : Dev nD) : S512x512.Idx → Elt F .f32 :=
  (win0_0.blk (0 : Fin 1)).view.read (Elt F) ((s₀ m ρ).mem ((c : Thread nD τ).loc main_arg0))

/-- The receive buffer of device `c` once all has arrived: slot `k` holds chunk `c` of device `c + k`. -/
def rsAll (c : Dev nD) : S32x16x512.Idx → Elt F .f32 := fun i => xstg m ρ (sh c (i 0).val) (rowIx c (i 1) (i 2))

/-- Slots 16 to 31, -/
abbrev rectHigh : Rect S32x16x512 := Rect.unit (s := S32x16x512) ![16, 0, 0] S16x16x512.size inb_S32x16x512_S16x16x512_16_0_0
/-- slots 0 to 15, -/
abbrev rectLow : Rect S32x16x512 := Rect.unit (s := S32x16x512) ![0, 0, 0] S16x16x512.size inb_S32x16x512_S16x16x512_0_0_0

/-- The reduced chunk of device `p`, as the kernel computes it. -/
def redAt (p : Dev nD) : S16x512.Idx → Elt F .f32 :=
  k0_pay3 (k0_pay2 (rM.view.readAt (Elt F) rectHigh.toLoadRect (rsAll m ρ p))) (rM.view.readAt (Elt F) rectLow.toLoadRect (rsAll m ρ p))

/-- The result: chunk `p` is `redAt p`. -/
def outAll : S512x512.Idx → Elt F .f32 := fun i => redAt m ρ (chunkOf i) (inChunk i)

end Cert.AllReduce

end
-- ==== Proof.Schedule.lean ====
/-
# `Schedule`: the protocol of the exchange

Every semaphore cell has one round.

* The barrier cell of device `c` expects thirty-one units, one from each other device. The unit of offset index `j` comes
  from the device `j.rev` ahead of `c`. It hands `c` that device's receive slot `j.succ`, and chunk `c` of that device's result.
  Those are the two places `c` writes there.
* A cell of the four arrays expects one chunk's units, unless its number is 0: no transfer uses that one.
  Arrivals hand the chunk with what has arrived. Departures hand back what the transfer read.

A device owes its peers' barriers first, then their arrivals; it waits in the order barrier, first arrivals, second arrivals.
-/
module

public import proofs.«01_k».proof.Proof.Cells
public import Idealize.ShloMosaic.Lib.Rounds

@[expose] public section

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's, whose duties are the offset indices -/

abbrev UB : Type := URounds (GSem nD τ sig) (Fin 31)
/-- The ghost state: the pipeline's and the protocol's. -/
abbrev UU : Type := UR sig nD τ × UB

local notation "𝕄" => MT nD τ sig Unit (Elt F) ℕ UU ℕ

/-- The pipeline's part, -/
abbrev EP : Emb (UR sig nD τ) (MT nD τ sig Unit (Elt F) ℕ UU ℕ) := embL
/-- and the protocol's. -/
abbrev ER : Emb UB (MT nD τ sig Unit (Elt F) ℕ UU ℕ) := embR

variable (m : (ℓ : Loc nD τ sig) → Buf (Elt F) ℓ) (ρ : Dev nD → PrngReg)

/-! ## Pieces of the buffers as assertions -/

/-- Chunk `p` of device `c`'s rows of the input, with its contents. -/
def xPts (c p : Dev nD) : sProp 𝕄 := ((c : Thread nD τ).loc cc0_stg0_0) ↦[chunkSet p]{fullShare} xstg m ρ c
/-- Slot `k` of device `c`'s receive buffer, holding `f`. -/
def slotPts (c : Dev nD) (k : Fin 32) (f : S32x16x512.Idx → Elt F .f32) : sProp 𝕄 :=
  ((c : Thread nD τ).loc cc0_scratch0) ↦[slotSet k]{fullShare} f
/-- Chunk `p` of device `c`'s result at a share, holding `f`. -/
def oPts (c p : Dev nD) (s : PosShare TreeShare) (f : S512x512.Idx → Elt F .f32) : sProp 𝕄 :=
  ((c : Thread nD τ).loc cc0_stg1_0) ↦[chunkSet p]{s} f

/-- The share of the own chunk of the result that the copy of number `k` reads with. -/
abbrev leafShare (k : Fin 32) : PosShare TreeShare := ShareLeaves.leaf 5 fullShare k

/-- These assertions may be handed over by a cell: -/
instance xPts_storable (c p : Dev nD) : BI.Storable (upEmb : UEmb _ 𝕄) (xPts (F := F) m ρ c p) := by unfold xPts; infer_instance
/-- a slot, -/
instance slotPts_storable (c : Dev nD) (k : Fin 32) (f) : BI.Storable (upEmb : UEmb _ 𝕄) (slotPts (F := F) c k f) := by
  unfold slotPts; infer_instance
/-- a chunk of the result, -/
instance oPts_storable (c p : Dev nD) (s) (f) : BI.Storable (upEmb : UEmb _ 𝕄) (oPts (F := F) c p s f) := by unfold oPts; infer_instance

/-! ## The schedule -/

/-- What the barrier unit of offset index `j` hands device `c`. -/
def barPay (c : Dev nD) (j : Fin 31) : sProp 𝕄 :=
  iprop((∃ f, slotPts (ahead c j.rev) j.succ f) ∗ (∃ f, oPts (ahead c j.rev) c fullShare f))

/-- What the transfer on cell `k` of array `q` of device `c` hands `c`. -/
def dmaPay (c : Dev nD) (q : Fin 4) (k : Fin 32) : sProp 𝕄 :=
  match q with
  | 0 => xPts m ρ c (sh c k.val)
  | 1 => slotPts c k (rsAll m ρ c)
  | 2 => oPts c c (leafShare k) (outAll m ρ)
  | 3 => oPts c (sh c k.val) fullShare (outAll m ρ)

/-- what a barrier unit hands over, -/
instance barPay_storable (c : Dev nD) (j : Fin 31) : BI.Storable (upEmb : UEmb _ 𝕄) (barPay (F := F) c j) := by
  unfold barPay; infer_instance
/-- and what a transfer hands over. -/
instance dmaPay_storable (c : Dev nD) (q : Fin 4) (k : Fin 32) : BI.Storable (upEmb : UEmb _ 𝕄) (dmaPay (F := F) m ρ c q k) := by
  unfold dmaPay; split <;> infer_instance

/-- The array a semaphore lies in, -/
def arrOf (s : DmaSem sig) : Fin 4 := ⟨(s.val - 2) / 32, by have : s.val < 130 := s.isLt; omega⟩
/-- and its number there. -/
def numOf (s : DmaSem sig) : Fin 32 := ⟨(s.val - 2) % 32, Nat.mod_lt _ (by decide)⟩

/-- The array is read off its semaphore, -/
theorem arrOf_dsem (q : Fin 4) (k : Fin 32) : arrOf (dsem q k) = q :=
  Fin.ext (by show (2 + 32 * q.val + k.val - 2) / 32 = q.val; have := k.isLt; omega)
/-- so is the number. -/
theorem numOf_dsem (q : Fin 4) (k : Fin 32) : numOf (dsem q k) = k :=
  Fin.ext (by show (2 + 32 * q.val + k.val - 2) % 32 = k.val; have := k.isLt; omega)

/-- The duties of a semaphore: all offset indices for the barrier, one for a semaphore of the arrays whose number is not 0. -/
def dutiesOf : SemLoc sig → Finset (Fin 31)
  | .reg _ => Finset.univ
  | .dma s => if numOf s = 0 then ∅ else {0}

/-- The protocol. -/
def exRd : Rounds.Schedule (GSem nD τ sig) (Fin 31) 𝕄 where
  duties g r := if r = 0 ∧ g.1.2 = .tc then dutiesOf g.2 else ∅
  unitless _ := False
  amount g _ _ := match g.2 with
    | .reg _ => 1
    | .dma _ => N
  payload g _ d := match g.2 with
    | .reg _ => barPay g.1.1 d
    | .dma s => dmaPay m ρ g.1.1 (arrOf s) (numOf s)
  amount_pos g _ _ _ := by
    obtain ⟨t, g | g⟩ := g
    · exact Nat.one_pos
    · exact N_pos

/-- Every payload of the protocol may be handed over by a cell. -/
instance exRd_payload_storable (g : GSem nD τ sig) (r : ℕ) (d : Fin 31) :
    BI.Storable (upEmb : UEmb _ 𝕄) ((exRd (F := F) m ρ).payload g r d) := by
  obtain ⟨t, g | g⟩ := g
  · exact barPay_storable _ _
  · exact dmaPay_storable _ _ _ _ _

section Sched

variable (c : Dev nD) (q : Fin 4) (k : Fin 32)

/-- The barrier has a duty for each offset, -/
theorem duties_bar : (exRd (F := F) m ρ).duties (barCell c) 0 = Finset.univ := by
  dsimp only [exRd]; exact if_pos ⟨rfl, rfl⟩
/-- an array's semaphore one unless its number is 0, -/
theorem duties_dma : (exRd (F := F) m ρ).duties (dcell c q k) 0 = if k = 0 then ∅ else {0} := by
  dsimp only [exRd]
  rw [if_pos ⟨rfl, rfl⟩]
  dsimp only [dutiesOf]
  rw [numOf_dsem]
/-- so one at every offset, -/
theorem duties_succ (j : Fin 31) : (exRd (F := F) m ρ).duties (dcell c q j.succ) 0 = {0} := by
  rw [duties_dma, if_neg (Fin.succ_ne_zero j)]
/-- and no cell has any in a later round. -/
theorem duties_later (g : GSem nD τ sig) : ∀ r, 1 ≤ r → (exRd (F := F) m ρ).duties g r = ∅ :=
  fun r hr => if_neg fun h => by omega
/-- No round of a semaphore with number 0 has a duty. -/
theorem duties_unused : ∀ r, 0 ≤ r → (exRd (F := F) m ρ).duties (dcell c q 0) r = ∅ := fun r _ => by
  rcases Nat.eq_zero_or_pos r with rfl | h
  · rw [duties_dma, if_pos rfl]
  · exact duties_later m ρ _ r h

/-- A signal is one unit, -/
theorem amount_bar (d : Fin 31) : (exRd (F := F) m ρ).amount (barCell c) 0 d = 1 := rfl
/-- a transfer a chunk's. -/
theorem amount_dma (d : Fin 31) : (exRd (F := F) m ρ).amount (dcell c q k) 0 d = N := rfl

/-- The barrier expects thirty-one units, -/
theorem expect_bar : (exRd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
/-- an array's semaphore one chunk's. -/
theorem expect_dma (j : Fin 31) : (exRd (F := F) m ρ).expect (dcell c q j.succ) 0 = N := by
  unfold Schedule.expect Schedule.amountOf
  rw [duties_succ, Finset.sum_singleton, amount_dma]

/-- The barrier's payload, -/
theorem payload_bar (d : Fin 31) : (exRd (F := F) m ρ).payload (barCell c) 0 d = barPay c d := rfl
/-- and a transfer's. -/
theorem payload_dma (d : Fin 31) : (exRd (F := F) m ρ).payload (dcell c q k) 0 d = dmaPay m ρ c q k := by
  show dmaPay m ρ c (arrOf (dsem q k)) (numOf (dsem q k)) = _
  rw [arrOf_dsem, numOf_dsem]

/-- All of the barrier's round: the hand-overs of the thirty-one other devices. -/
theorem rest_bar : bigSep ((exRd (F := F) m ρ).duties (barCell c) 0 \ ∅) (fun d => (exRd (F := F) m ρ).payload (barCell c) 0 d)
    = bigSep Finset.univ fun j => barPay c j := by
  rw [Finset.sdiff_empty, duties_bar]; rfl
/-- and all that an array's semaphore hands over. -/
theorem rest_dma (j : Fin 31) :
    bigSep ((exRd (F := F) m ρ).duties (dcell c q j.succ) 0 \ ∅) (fun d => (exRd (F := F) m ρ).payload (dcell c q j.succ) 0 d)
      = dmaPay m ρ c q j.succ := by
  rw [Finset.sdiff_empty, duties_succ, bigSep_singleton, payload_dma]

end Sched

/-! ## What each device owes, and the levels -/

/-- One unit to the barrier of each peer of `S`. -/
def owedSig (c : Dev nD) (S : Finset (Fin 31)) : CellTallies nD τ sig Unit := ∑ j ∈ S, tallyAt (barCell (ahead c j)) () 1
/-- One chunk to the arrival cell, of array `q`, of each peer of `S`. -/
def owedArr (c : Dev nD) (q : Fin 4) (S : Finset (Fin 31)) : CellTallies nD τ sig Unit :=
  ∑ j ∈ S, tallyAt (dcell (ahead c j) q j.rev.succ) () N

/-- What device `c` owes at launch. -/
def O₀ (c : Dev nD) : CellTallies nD τ sig Unit := owedSig c Finset.univ + (owedArr c 1 Finset.univ + owedArr c 3 Finset.univ)

/-- With no offset left no signal is owed, -/
theorem owedSig_empty (c : Dev nD) : owedSig c ∅ = 0 := Finset.sum_empty
/-- and no arrival. -/
theorem owedArr_empty (c : Dev nD) (q : Fin 4) : owedArr c q ∅ = 0 := Finset.sum_empty
/-- One more signal owed, -/
theorem owedSig_insert (c : Dev nD) {S : Finset (Fin 31)} {j : Fin 31} (h : j ∉ S) (O : CellTallies nD τ sig Unit) :
    owedSig c (insert j S) + O = (owedSig c S + O) + tallyAt (barCell (ahead c j)) () 1 := by
  unfold owedSig; rw [Finset.sum_insert h, add_assoc, add_comm]
/-- and one more arrival owed. -/
theorem owedArr_insert (c : Dev nD) (q : Fin 4) {S : Finset (Fin 31)} {j : Fin 31} (h : j ∉ S) (O : CellTallies nD τ sig Unit) :
    owedArr c q (insert j S) + O = (owedArr c q S + O) + tallyAt (dcell (ahead c j) q j.rev.succ) () N := by
  unfold owedArr; rw [Finset.sum_insert h, add_assoc, add_comm]

/-- Every cell of a core has one level. -/
def L (g : GSem nD τ sig) : Finset Unit := if g.1.2 = .tc then {()} else ∅
/-- Other cells have none, -/
theorem L_of_ne (g : GSem nD τ sig) (h : g.1.2 ≠ .tc) : L g = ∅ := if_neg h
/-- a core's cells have it. -/
theorem L_tc (c : Dev nD) (sm : SemLoc sig) : L ((c : Thread nD τ), sm) = {()} := if_pos rfl

/-- The level of array `q`: first arrivals at 2, second arrivals at 3, departures at 0. -/
def arrLv : Fin 4 → ℕ
  | 1 => 2
  | 3 => 3
  | _ => 0
/-- The level of a cell: the barrier at 1, the arrays by `arrLv`; the staging copies' cells lie at 0. -/
def lv (g : GSem nD τ sig) (_ : Unit) : ℕ := match g.2 with
  | .reg _ => 1
  | .dma s => arrLv (arrOf s)

/-- The barrier's level, -/
theorem lv_bar (c : Dev nD) (u : Unit) : lv (barCell c) u = 1 := rfl
/-- and an array's. -/
theorem lv_dma (c : Dev nD) (q : Fin 4) (k : Fin 32) (u : Unit) : lv (dcell c q k) u = arrLv q := by
  show arrLv (arrOf (dsem q k)) = _
  rw [arrOf_dsem]

/-- A sum of tallies is positive only at one of its cells. -/
theorem sum_tally_pos {S : Finset (Fin 31)} {cell : Fin 31 → GSem nD τ sig} {n : ℕ} {g : GSem nD τ sig} {u : Unit}
    (h : 0 < (∑ j ∈ S, tallyAt (cell j) () n : CellTallies nD τ sig Unit) g u) : ∃ j ∈ S, g = cell j := by
  rw [Finset.sum_apply, Finsupp.finset_sum_apply] at h
  obtain ⟨j, hj, hne⟩ := Finset.exists_ne_zero_of_sum_ne_zero (Nat.pos_iff_ne_zero.mp h)
  refine ⟨j, hj, ?_⟩
  by_contra hg
  exact hne (by rw [tallyAt_apply, if_neg fun h' => hg h'.1])

/-- What is owed of the three kinds lies at cells of devices' cores, each at its kind's level. -/
theorem owed_pos {c : Dev nD} {S S₁ S₃ : Finset (Fin 31)} {g : GSem nD τ sig} {u : Unit}
    (h : 0 < (owedSig c S + (owedArr c 1 S₁ + owedArr c 3 S₃)) g u) :
    g.1.2 = .tc ∧ ((∃ j ∈ S, lv g u = 1) ∨ (∃ j ∈ S₁, lv g u = 2) ∨ ∃ j ∈ S₃, lv g u = 3) := by
  rw [Pi.add_apply, Finsupp.add_apply, Pi.add_apply, Finsupp.add_apply] at h
  by_cases h0 : 0 < owedSig c S g u
  · obtain ⟨j, hj, rfl⟩ := sum_tally_pos h0
    exact ⟨rfl, .inl ⟨j, hj, lv_bar _ _⟩⟩
  by_cases h1 : 0 < owedArr c 1 S₁ g u
  · obtain ⟨j, hj, rfl⟩ := sum_tally_pos h1
    exact ⟨rfl, .inr (.inl ⟨j, hj, lv_dma _ _ _ _⟩)⟩
  · obtain ⟨j, hj, rfl⟩ := sum_tally_pos (show 0 < owedArr c 3 S₃ g u by omega)
    exact ⟨rfl, .inr (.inr ⟨j, hj, lv_dma _ _ _ _⟩)⟩

/-- A device may wait on a cell that lies below all it still owes. -/
theorem mayWait_of {c : Dev nD} {sm : SemLoc sig} {S S₁ S₃ : Finset (Fin 31)} (n : ℕ)
    (hsm : lv ((c : Thread nD τ), sm) () ≤ n) (h0 : n < 1 ∨ S = ∅) (h1 : n < 2 ∨ S₁ = ∅) (h3 : n < 3 ∨ S₃ = ∅) :
    (levAts L lv : sProp 𝕄) ⊢ MayWait (c : Thread nD τ) sm () (owedSig c S + (owedArr c 1 S₁ + owedArr c 3 S₃)) :=
  MayOwe.of_cut (L := L) (lev := lv) n (fun p hp => by rw [Finset.mem_singleton.mp hp, L_tc]; exact Finset.mem_singleton_self _)
    (fun g u hg => by rw [L, if_pos (owed_pos hg).1]; exact Finset.mem_singleton_self _)
    (fun p hp => by rw [Finset.mem_singleton.mp hp]; exact hsm)
    (fun g u hg => by
      rcases (owed_pos hg).2 with ⟨j, hj, e⟩ | ⟨j, hj, e⟩ | ⟨j, hj, e⟩
      · rcases h0 with h | rfl
        · omega
        · exact absurd hj (Finset.notMem_empty j)
      · rcases h1 with h | rfl
        · omega
        · exact absurd hj (Finset.notMem_empty j)
      · rcases h3 with h | rfl
        · omega
        · exact absurd hj (Finset.notMem_empty j))

end Cert.AllReduce

end
-- ==== Proof.Steps.lean ====
/-
# `Steps`: the rule for a loop, and what one iteration of each communicating loop does

Every theorem here says: from the resources on the left, the program runs, and leaves those on the right. `Ctx` holds what every step
may read: all cells' invariants, that round 0 of every cell is reached, and the levels.
-/
module

public import proofs.«01_k».proof.Proof.Schedule

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop of the program needs a variant. -/
abbrev 𝒱₀ : Variants := Variants.none

/-- The program `p` runs on device `c`'s core, and its result satisfies `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may read -/

def records (K : Dev nD × CK → ℕ) : sProp 𝕄 :=
  iprop((bigSep Finset.univ fun ck : Dev nD × CK => cellInv ER (exRd m ρ) (K ck) (kcell ck))
    ∗ bigSep Finset.univ fun ck : Dev nD × CK => reached ER (kcell ck) 0)

/-- The cells' records may be used again and again. -/
instance records_persistent (K : Dev nD × CK → ℕ) : BI.Persistent (records m ρ K) := by unfold records; infer_instance

/-- The records and the levels. -/
def Ctx (K : Dev nD × CK → ℕ) : sProp 𝕄 := iprop(records m ρ K ∗ levAts L lv)

/-- They may be used again and again. -/
instance Ctx_persistent (K : Dev nD × CK → ℕ) : BI.Persistent (Ctx m ρ K) := by unfold Ctx; infer_instance

variable (K : Dev nD × CK → ℕ)

/-- One cell's invariant out of all, -/
theorem inv_elim (ck : Dev nD × CK) :
    (bigSep Finset.univ fun ck : Dev nD × CK => (cellInv ER (exRd m ρ) (K ck) (kcell ck) : sProp 𝕄))
      ⊢ cellInv ER (exRd m ρ) (K ck) (kcell ck) :=
  bigSep_elim (Finset.mem_univ ck)
/-- one cell's round out of all, -/
theorem reached_elim (ck : Dev nD × CK) :
    (bigSep Finset.univ fun ck : Dev nD × CK => (reached ER (kcell ck) 0 : sProp 𝕄)) ⊢ reached ER (kcell ck) 0 :=
  bigSep_elim (Finset.mem_univ ck)
/-- the same from the context: -/
theorem inv_at (ck : Dev nD × CK) : Ctx m ρ K ⊢ cellInv ER (exRd m ρ) (K ck) (kcell ck) := by
  unfold Ctx records
  iintro ⟨⟨H, -⟩, -⟩
  iapply (inv_elim m ρ K ck) $$ H
/-- the round, -/
theorem reached_at (ck : Dev nD × CK) : Ctx m ρ K ⊢ reached ER (kcell ck) 0 := by
  unfold Ctx records
  iintro ⟨⟨-, H⟩, -⟩
  iapply (reached_elim (F := F) ck) $$ H
/-- and the levels. -/
theorem lev_of : Ctx m ρ K ⊢ (levAts L lv : sProp 𝕄) := by
  unfold Ctx
  iintro ⟨-, H⟩
  iexact H

/-- What the device still owes, whatever it has waited on. -/
def owesX (c : Dev nD) (O : CellTallies nD τ sig Unit) : sProp 𝕄 := iprop(∃ W, owes (c : Thread nD τ) O W)

/-- The sum of what is owed of the three kinds. -/
abbrev owed (c : Dev nD) (S S₁ S₃ : Finset (Fin 31)) : CellTallies nD τ sig Unit := owedSig c S + (owedArr c 1 S₁ + owedArr c 3 S₃)

/-! ## Sequencing and loops -/

/-- A program run after another: the first's result is what the rest runs from. -/
theorem runs_seq {c : Dev nD} {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (h : P ⊢ runs c p R) :
    P ⊢ iprop((∀ a, R a -∗ runs c (k a) Q) -∗ runs c (p >>= k) Q) := by
  rw [runs, wp_bind]
  exact h.trans (wp_wand _ _ _)

/-- A loop: each iteration turns `A` at the remaining offsets, with its own part `Φ j`, into `A` at the offsets left, with `Ψ j`. -/
theorem runs_each {c : Dev nD} {P : sProp 𝕄} [BI.Persistent P] {A : Finset (Fin 31) → sProp 𝕄} {Φ Ψ : Fin 31 → sProp 𝕄}
    {f : Fin 31 → KProg F}
    (h : ∀ j S, j ∉ S → iprop(P ∗ A (insert j S) ∗ Φ j) ⊢ runs c (f j) (fun _ => iprop(A S ∗ Ψ j))) :
    ∀ js : List (Fin 31), js.Nodup →
      iprop(P ∗ A js.toFinset ∗ bigSep js.toFinset Φ) ⊢ runs c (each js f) (fun _ => iprop(A ∅ ∗ bigSep js.toFinset Ψ))
  | [], _ => by
    rw [List.toFinset_nil]
    show _ ⊢ runs c (pure PUnit.unit : KProg F) _
    rw [runs, wp_pure]
    iintro ⟨-, HA, -⟩
    imodintro
    isplitl [HA]; · iexact HA
    rw [bigSep_empty]; iempintro
  | j :: js, hn => by
    have hj : j ∉ js.toFinset := fun hm => (List.nodup_cons.mp hn).1 (List.mem_toFinset.mp hm)
    have ih := runs_each h js (List.nodup_cons.mp hn).2
    have e (Θ : Fin 31 → sProp 𝕄) : bigSep (insert j js.toFinset) Θ = iprop(Θ j ∗ bigSep js.toFinset Θ) := bigSep_insert hj
    rw [List.toFinset_cons, e, e]
    show _ ⊢ runs c (f j >>= fun _ => each js f) _
    iintro ⟨#HP, HA, Hj, Hr⟩
    iapply (runs_seq (h j js.toFinset hj)) $$ [HA Hj]
    · isplitr; · iexact HP
      isplitl [HA] <;> iassumption
    iintro %a ⟨HA, Hψ⟩
    iapply (wp_wand _ _ _) $$ [HA Hr]
    · iapply ih
      isplitr; · iexact HP
      isplitl [HA] <;> iassumption
    iintro %b ⟨HA, Hψs⟩
    isplitl [HA]; · iexact HA
    isplitl [Hψ]
    · iexact Hψ
    iexact Hψs

/-- The offsets are listed without repetition, -/
theorem offs_nodup : offs.Nodup := by decide
/-- and none is missing. -/
theorem offs_all : offs.toFinset = Finset.univ := by decide

/-! ## The three kinds of step -/

/-- Signal the barrier of the peer: hand it the slot and the chunk it writes to. -/
theorem sig_step (c : Dev nD) (j : Fin 31) (S : Finset (Fin 31)) (hj : j ∉ S) :
    iprop(Ctx m ρ K ∗ owesX c (owed c (insert j S) Finset.univ Finset.univ)
        ∗ (dutyTok ER (barCell (ahead c j)) 0 j ∗ (∃ f, slotPts c j.succ f) ∗ (∃ f, oPts c (ahead c j) fullShare f)))
      ⊢ runs c (sigStep c j) (fun _ => iprop(owesX c (owed c S Finset.univ Finset.univ) ∗ emp)) := by
  unfold sigStep semSignalWord runs owesX
  rw [peer_eq]
  simp only [Prog.lift]
  iintro ⟨#HC, ⟨%W, HO⟩, Htok, Hs, Ho⟩
  ihave #HI := (inv_at m ρ K (ahead c j, .inl ())) $$ HC
  ihave #HR := (reached_at m ρ K (ahead c j, .inl ())) $$ HC
  iapply (Rounds.wp_signal 𝒱₀ ER (exRd m ρ) (c : Thread nD τ) none (dst := (ahead c j : Thread nD τ)) (κ := K (ahead c j, .inl ()))
      (d := j) (by rw [duties_bar]; exact Finset.mem_univ _) ((amount_bar m ρ (ahead c j) j).trans (by decide)) ()
      (owed c S Finset.univ Finset.univ) (owedSig_insert c hj _)) $$ [HO Htok Hs Ho]
  · isplitr; · iexact HI
    isplitl [HO]; · iexact HO
    isplitl [Htok]; · iexact Htok
    isplitl [Hs Ho]
    · rw [payload_bar]; unfold barPay; rw [ahead_rev]
      isplitl [Hs] <;> iassumption
    iexact HR
  iintro HO
  rw [wp_ret]; imodintro
  isplitl [HO]
  · iexists W; iexact HO
  iempintro

/-- Wait on the own barrier: the thirty-one hand-overs arrive. -/
theorem bar_step (c : Dev nD) :
    iprop(Ctx m ρ K ∗ owesX c (owed c ∅ Finset.univ Finset.univ) ∗ cred (tallyAt (barCell c) () 31) ∗ atPos ER (barCell c) 0 ∅ 0)
      ⊢ runs c barStep (fun _ => iprop(owesX c (owed c ∅ Finset.univ Finset.univ) ∗ atPos ER (barCell c) 1 ∅ 0
          ∗ bigSep Finset.univ fun j => barPay c j)) := by
  unfold barStep semWaitWord runs owesX
  simp only [Prog.lift]
  iintro ⟨#HC, ⟨%W, HO⟩, Hcr, Hat⟩
  ihave #HI := (inv_at m ρ K (c, .inl ())) $$ HC
  iapply (Rounds.wp_wait_rest_token 𝒱₀ ER (exRd m ρ) (c : Thread nD τ) none (κ := K (c, .inl ()))
      (wpE_semWait_eq 𝒱₀ (c : Thread nD τ) none Set.univ) (Set.mem_univ _) () (O := owed c ∅ Finset.univ Finset.univ) (W := W)
      (R := 0) (m := 0) (T := ∅) (by rw [expect_bar]; decide)) $$ [HO Hcr Hat]
  · isplitr; · iexact HI
    isplitl [Hcr]; · iexact Hcr
    isplitl [HO]; · iexact HO
    isplitr
    · have hw := (lev_of m ρ K).trans
        (mayWait_of (F := F) (c := c) (sm := .reg barS) (S := ∅) (S₁ := Finset.univ) (S₃ := Finset.univ) 1 (le_of_eq (lv_bar c ())) (.inr rfl) (.inl (by decide)) (.inl (by decide)))
      iapply hw
      iexact HC
    iexact Hat
  iintro ⟨HO, Hat, -, Hpay⟩
  rw [wp_ret]; imodintro
  isplitl [HO]
  · iexists _; iexact HO
  isplitl [Hat]; · iexact Hat
  iapply (Entails.of_eq (rest_bar m ρ c)) $$ Hpay

/-- A copy to device `p`: the source goes with the departure, the written destination with the arrival. -/
theorem send_step (c p n : Dev nD) (hn : n = p) (src dst src' dst' : Memref sig .tc .vmem S16x512 .f32) (es : src' = src) (ed : dst' = dst)
    (s₁ s₂ : DmaSem sig)
    (q₁ q₂ : Fin 4) (j₁ j₂ : Fin 31) (h₁ : s₁ = dsem q₁ j₁.succ) (h₂ : s₂ = dsem q₂ j₂.succ)
    {hsc : dst'.view.ref.isScScratch = false} {hx : src'.view.WordExact} {hy : dst'.view.WordExact}
    {ht : DmaTarget.Typed .vmem (.dma s₂) (.remote (Dev.tc n : Thread nD τ) dst' (.dma s₁) hsc)}
    {sh : PosShare TreeShare} (fs : Buf (Elt F) (src.view.loc (c : Thread nD τ))) (fd : Buf (Elt F) (dst.view.loc (p : Thread nD τ)))
    (hN : dst.view.amount (.dma s₂) = N) (O O' : CellTallies nD τ sig Unit) (hO : O' = O + tallyAt (dcell p q₂ j₂.succ) () N)
    (hpay₁ : (src.view.loc (c : Thread nD τ) ↦[src.view.set]{sh} fs : sProp 𝕄) ⊢ dmaPay m ρ c q₁ j₁.succ)
    (hpay₂ : (dst.view.loc (p : Thread nD τ) ↦[dst.view.set]{fullShare}
        (dst.view.write (Elt F) fd (src.view.read (Elt F) fs) Finset.univ) : sProp 𝕄) ⊢ dmaPay m ρ p q₂ j₂.succ) :
    iprop(Ctx m ρ K ∗ owesX c O' ∗ (src.view.loc (c : Thread nD τ) ↦[src.view.set]{sh} fs)
        ∗ (dst.view.loc (p : Thread nD τ) ↦[dst.view.set]{fullShare} fd)
        ∗ dutyTok ER (dcell c q₁ j₁.succ) 0 0 ∗ dutyTok ER (dcell p q₂ j₂.succ) 0 0)
      ⊢ runs c (Prog.lift (.enqueueDma src' (.remote (Dev.tc n : Thread nD τ) dst' (.dma s₁) hsc) (.dma s₂) hx hy ht))
          (fun _ => iprop(owesX c O ∗ cred (tallyAt (dcell c q₁ j₁.succ) () N))) := by
  subst hn h₁ h₂ es ed
  unfold runs owesX
  simp only [Prog.lift]
  iintro ⟨#HC, ⟨%W, HO⟩, Hs, Hd, Ht₁, Ht₂⟩
  ihave #HI₁ := (inv_at m ρ K (c, .inr (q₁, j₁.succ))) $$ HC
  ihave #HR₁ := (reached_at m ρ K (c, .inr (q₁, j₁.succ))) $$ HC
  ihave #HI₂ := (inv_at m ρ K (n, .inr (q₂, j₂.succ))) $$ HC
  ihave #HR₂ := (reached_at m ρ K (n, .inr (q₂, j₂.succ))) $$ HC
  iapply (Rounds.wp_send_pointsTo 𝒱₀ ER (exRd m ρ) (c : Thread nD τ) none (κ₁ := K (c, .inr (q₁, j₁.succ)))
      (κ₂ := K (n, .inr (q₂, j₂.succ))) (r₁ := 0) (r₂ := 0) (d₁ := 0) (d₂ := 0) (fd := fd)
      (by rw [duties_succ]; exact Finset.mem_singleton_self _) (by rw [duties_succ]; exact Finset.mem_singleton_self _)
      () () N hN (amount_dma m ρ c q₁ j₁.succ 0) (amount_dma m ρ n q₂ j₂.succ 0) O hO (W := W)
      (by rw [payload_dma]; exact hpay₁) (by rw [payload_dma]; exact hpay₂)) $$ [HO Hs Hd Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hcr, HO⟩
  rw [wp_ret]; imodintro
  isplitl [HO]
  · iexists W; iexact HO
  iexact Hcr

/-- A wait for a transfer: its payload arrives. -/
theorem wait_step (c : Dev nD) (src dst : Memref sig .tc .vmem S16x512 .f32) (s : DmaSem sig) (q : Fin 4) (j : Fin 31)
    (hs : s = dsem q j.succ) {hx : src.view.WordExact} {hy : dst.view.WordExact} (hN : dst.view.dmaCredit = N)
    (S₁ S₃ : Finset (Fin 31)) (h1 : arrLv q < 2 ∨ S₁ = ∅) (h3 : arrLv q < 3 ∨ S₃ = ∅) :
    iprop(Ctx m ρ K ∗ owesX c (owed c ∅ S₁ S₃) ∗ cred (tallyAt (dcell c q j.succ) () N) ∗ atPos ER (dcell c q j.succ) 0 ∅ 0)
      ⊢ runs c (Prog.lift (.waitDma2 s src dst hx hy))
          (fun _ => iprop(owesX c (owed c ∅ S₁ S₃) ∗ atPos ER (dcell c q j.succ) 1 ∅ 0 ∗ dmaPay m ρ c q j.succ)) := by
  subst hs
  unfold runs owesX
  simp only [Prog.lift]
  iintro ⟨#HC, ⟨%W, HO⟩, Hcr, Hat⟩
  ihave #HI := (inv_at m ρ K (c, .inr (q, j.succ))) $$ HC
  iapply (Rounds.wp_wait_rest_token 𝒱₀ ER (exRd m ρ) (c : Thread nD τ) none (κ := K (c, .inr (q, j.succ)))
      (wpE_waitDma2_eq 𝒱₀ (c : Thread nD τ) none Set.univ) (Set.mem_univ _) () (O := owed c ∅ S₁ S₃) (W := W)
      (R := 0) (m := 0) (T := ∅) (by rw [expect_dma, Nat.zero_add, hN])) $$ [HO Hcr Hat]
  · isplitr; · iexact HI
    isplitl [Hcr]; · rw [hN]; iexact Hcr
    isplitl [HO]; · iexact HO
    isplitr
    · iapply ((lev_of m ρ K).trans
        (mayWait_of (F := F) (arrLv q) (le_of_eq (lv_dma c q j.succ ())) (.inr rfl) h1 h3))
      iexact HC
    iexact Hat
  iintro ⟨HO, Hat, -, Hpay⟩
  rw [wp_ret]; imodintro
  isplitl [HO]
  · iexists _; iexact HO
  isplitl [Hat]; · iexact Hat
  iapply (Entails.of_eq (rest_dma m ρ c q j)) $$ Hpay

end Cert.AllReduce

end
-- ==== Proof.Iter.lean ====
/-
# `Iter`: one iteration of each loop that copies or waits, in terms of chunks and slots
-/
module

public import proofs.«01_k».proof.Proof.Steps

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## Pieces under the views -/

theorem xPts_view (c p : Dev nD) :
    xPts m ρ c p = ((chunkM xM p).view.loc (c : Thread nD τ) ↦[(chunkM xM p).view.set]{fullShare} xstg m ρ c : sProp 𝕄) := by
  rw [set_chunk_x]; rfl
/-- A chunk of the result, seen as the view a copy names. -/
theorem oPts_view (c p : Dev nD) (s : PosShare TreeShare) (f : S512x512.Idx → Elt F .f32) :
    oPts c p s f = ((chunkM oM p).view.loc (c : Thread nD τ) ↦[(chunkM oM p).view.set]{s} f : sProp 𝕄) := by
  rw [set_chunk_o]; rfl
/-- A slot, seen as the view a copy names. -/
theorem slotPts_view (c : Dev nD) (k : Fin 32) (f : S32x16x512.Idx → Elt F .f32) :
    slotPts c k f = ((slotM k).view.loc (c : Thread nD τ) ↦[(slotM k).view.set]{fullShare} f : sProp 𝕄) := by
  rw [set_slot]; rfl

/-! ## What lands -/

/-- Chunk `p` of device `c`, landed in the slot of device `p` that counts from `p` to `c`, is what `rsAll p` says. -/
theorem landed_slot (c : Dev nD) (j : Fin 31) (fd : S32x16x512.Idx → Elt F .f32) :
    ∀ i ∈ (slotM j.rev.succ).view.set,
      ((slotM j.rev.succ).view.write (Elt F) fd ((chunkM xM (ahead c j)).view.read (Elt F) (xstg m ρ c)) Finset.univ : S32x16x512.Idx → Elt F .f32) i
        = rsAll m ρ (ahead c j) i := by
  intro i hi
  obtain ⟨y, -, rfl⟩ := Finset.mem_map.mp hi
  refine (View.write_emb_of_mem _ _ (Finset.mem_univ y)).trans ?_
  show xstg m ρ c ((chunkRect (ahead c j)).emb y) = rsAll m ρ (ahead c j) ((slotM j.rev.succ).view.emb y)
  rw [slot_emb, chunk_emb]
  have e : sh (ahead c j) (j.rev.succ : Fin 32).val = c := (ahead_eq_sh _ _).symm.trans (ahead_rev c j)
  show _ = xstg m ρ (sh (ahead c j) (j.rev.succ : Fin 32).val) (rowIx (ahead c j) (y 0) (y 1))
  rw [e]

/-- A chunk of the result copied over the same chunk is the chunk. -/
theorem landed_chunk (p : Dev nD) (fd f : S512x512.Idx → Elt F .f32) :
    ∀ i ∈ (chunkM oM p).view.set,
      ((chunkM oM p).view.write (Elt F) fd ((chunkM oM p).view.read (Elt F) f) Finset.univ : S512x512.Idx → Elt F .f32) i = f i := by
  intro i hi
  obtain ⟨y, -, rfl⟩ := Finset.mem_map.mp hi
  exact View.write_emb_of_mem _ _ (Finset.mem_univ y)

/-! ## The iterations -/

/-- What the copy of a chunk of the input to a peer's slot is started from. -/
def rsFrom (c : Dev nD) (j : Fin 31) : sProp 𝕄 :=
  iprop(xPts m ρ c (ahead c j) ∗ (∃ f, slotPts (ahead c j) j.rev.succ f)
    ∗ dutyTok ER (dcell c 0 j.succ) 0 0 ∗ dutyTok ER (dcell (ahead c j) 1 j.rev.succ) 0 0)

/-- The credit for the departure of a copy. -/
abbrev sentCred (c : Dev nD) (q : Fin 4) (j : Fin 31) : sProp 𝕄 := cred (tallyAt (dcell c q j.succ) () N)

/-- One iteration of the first exchange: start the copy to the peer. -/
theorem rs_iter (c : Dev nD) (j : Fin 31) (S : Finset (Fin 31)) (hj : j ∉ S) :
    iprop(Ctx m ρ K ∗ owesX c (owed c ∅ (insert j S) Finset.univ) ∗ rsFrom m ρ c j)
      ⊢ runs c (rsStart xM rM cc0_scratch1 cc0_scratch2 c j)
          (fun _ => iprop(owesX c (owed c ∅ S Finset.univ) ∗ sentCred c 0 j)) := by
  unfold rsFrom
  iintro ⟨#HC, HO, Hx, ⟨%fd, Hs⟩, Ht₁, Ht₂⟩
  unfold rsStart
  iapply (send_step m ρ K c (ahead c j) (peer c j) (peer_eq c j) (chunkM xM (ahead c j)) (slotM j.rev.succ) (peerChunk xM c j)
      (slotView rM (31 - j.val) (lt_back j)) (peerChunk_eq xM c j) (slot_back j)
      (semAt cc0_scratch1 (1 + j.val) (lt_fwd j)) (semAt cc0_scratch2 (31 - j.val) (lt_back j)) 0 1 j j.rev
      (semAt_0 _ _ (fwd_eq j) _) (semAt_1 _ _ (back_eq j) _) (sh := fullShare) (xstg m ρ c) fd rfl
      (owed c ∅ S Finset.univ) (owed c ∅ (insert j S) Finset.univ)
      (by rw [owed, owedArr_insert c 1 hj, ← add_assoc])
      (by
        rw [← xPts_view, ahead_eq_sh]
        exact BI.Entails.refl _)
      (by
        rw [pointsTo_congr (landed_slot m ρ c j fd), ← slotPts_view]
        exact BI.Entails.refl _)) $$ [HO Hx Hs Ht₁ Ht₂]
  · isplitr; · iexact HC
    isplitl [HO]; · iexact HO
    isplitl [Hx]; · rw [← xPts_view]; iexact Hx
    isplitl [Hs]; · rw [← slotPts_view]; iexact Hs
    isplitl [Ht₁] <;> iassumption

/-- What the copy of the own reduced chunk to a peer's result is started from. -/
def agFrom (c : Dev nD) (j : Fin 31) : sProp 𝕄 :=
  iprop(oPts c c (leafShare j.succ) (outAll m ρ) ∗ (∃ f, oPts (ahead c j) c fullShare f)
    ∗ dutyTok ER (dcell c 2 j.succ) 0 0 ∗ dutyTok ER (dcell (ahead c j) 3 j.rev.succ) 0 0)

/-- One iteration of the second exchange: start the copy to the peer. -/
theorem ag_iter (c : Dev nD) (j : Fin 31) (S : Finset (Fin 31)) (hj : j ∉ S) :
    iprop(Ctx m ρ K ∗ owesX c (owed c ∅ ∅ (insert j S)) ∗ agFrom m ρ c j)
      ⊢ runs c (agStart oM cc0_scratch3 cc0_scratch4 c j)
          (fun _ => iprop(owesX c (owed c ∅ ∅ S) ∗ sentCred c 2 j)) := by
  have e : sh (ahead c j) (j.rev.succ : Fin 32).val = c := (ahead_eq_sh _ _).symm.trans (ahead_rev c j)
  unfold agFrom
  iintro ⟨#HC, HO, Hx, ⟨%fd, Hs⟩, Ht₁, Ht₂⟩
  unfold agStart
  iapply (send_step m ρ K c (ahead c j) (peer c j) (peer_eq c j) (chunkM oM c) (chunkM oM c) (ownChunk oM c) (ownChunk oM c)
      (ownChunk_eq oM c) (ownChunk_eq oM c)
      (semAt cc0_scratch3 (1 + j.val) (lt_fwd j)) (semAt cc0_scratch4 (31 - j.val) (lt_back j)) 2 3 j j.rev
      (semAt_2 _ _ (fwd_eq j) _) (semAt_3 _ _ (back_eq j) _) (sh := leafShare j.succ) (outAll m ρ) fd rfl
      (owed c ∅ ∅ S) (owed c ∅ ∅ (insert j S))
      (by
        have h := owedArr_insert c 3 hj 0
        rw [add_zero, add_zero] at h
        rw [owed, owed, h, ← add_assoc, ← add_assoc, ← add_assoc])
      (by
        rw [← oPts_view]
        exact BI.Entails.refl _)
      (by
        rw [pointsTo_congr (landed_chunk c fd (outAll m ρ)), ← oPts_view]
        show _ ⊢ oPts (ahead c j) (sh (ahead c j) (j.rev.succ : Fin 32).val) fullShare (outAll m ρ)
        rw [e])) $$ [HO Hx Hs Ht₁ Ht₂]
  · isplitr; · iexact HC
    isplitl [HO]; · iexact HO
    isplitl [Hx]; · rw [← oPts_view]; iexact Hx
    isplitl [Hs]; · rw [← oPts_view]; iexact Hs
    isplitl [Ht₁] <;> iassumption

/-- What a wait for the transfer on a cell starts from, -/
abbrev waitFrom (c : Dev nD) (q : Fin 4) (j : Fin 31) : sProp 𝕄 :=
  iprop(cred (tallyAt (dcell c q j.succ) () N) ∗ atPos ER (dcell c q j.succ) 0 ∅ 0)
/-- and what it leaves. -/
abbrev waitTo (c : Dev nD) (q : Fin 4) (j : Fin 31) : sProp 𝕄 :=
  iprop(atPos ER (dcell c q j.succ) 1 ∅ 0 ∗ dmaPay m ρ c q j.succ)

/-- One wait for an arrival of the first exchange, -/
theorem rsWait_iter (c : Dev nD) (j : Fin 31) :
    iprop(Ctx m ρ K ∗ owesX c (owed c ∅ ∅ Finset.univ) ∗ waitFrom c 1 j.rev)
      ⊢ runs c (rsWait xM rM cc0_scratch2 j) (fun _ => iprop(owesX c (owed c ∅ ∅ Finset.univ) ∗ waitTo m ρ c 1 j.rev)) :=
  wait_step m ρ K c (firstChunk xM) (slotView rM (31 - j.val) (lt_back j)) (semAt cc0_scratch2 (31 - j.val) (lt_back j)) 1 j.rev (semAt_1 _ _ (back_eq j) _) rfl ∅ Finset.univ (.inr rfl) (.inl (by decide))

/-- of the second, -/
theorem agWait_iter (c : Dev nD) (j : Fin 31) :
    iprop(Ctx m ρ K ∗ owesX c (owed c ∅ ∅ ∅) ∗ waitFrom c 3 j.rev)
      ⊢ runs c (agWait oM cc0_scratch4 c j) (fun _ => iprop(owesX c (owed c ∅ ∅ ∅) ∗ waitTo m ρ c 3 j.rev)) :=
  wait_step m ρ K c (ownChunk oM c) (peerChunk oM c j) (semAt cc0_scratch4 (31 - j.val) (lt_back j)) 3 j.rev (semAt_3 _ _ (back_eq j) _) rfl ∅ ∅ (.inr rfl) (.inr rfl)

/-- and the waits for one pair of departures. -/
theorem sentWait_iter (c : Dev nD) (j : Fin 31) :
    iprop(Ctx m ρ K ∗ owesX c (owed c ∅ ∅ ∅) ∗ (waitFrom c 0 j ∗ waitFrom c 2 j))
      ⊢ runs c (sentWait xM oM rM cc0_scratch1 cc0_scratch3 c j)
          (fun _ => iprop(owesX c (owed c ∅ ∅ ∅) ∗ (waitTo m ρ c 0 j ∗ waitTo m ρ c 2 j))) := by
  unfold sentWait
  iintro ⟨#HC, HO, H0, H2⟩
  iapply (runs_seq (wait_step m ρ K c (slotView rM (31 - j.val) (lt_back j)) (firstChunk xM) (semAt cc0_scratch1 (1 + j.val) (lt_fwd j)) 0 j
      (semAt_0 _ _ (fwd_eq j) _) rfl ∅ ∅ (.inr rfl) (.inr rfl))) $$ [HO H0]
  · isplitr; · iexact HC
    isplitl [HO] <;> iassumption
  iintro %a ⟨HO, H0⟩
  iapply (wp_wand _ _ _) $$ [HO H2]
  · iapply (wait_step m ρ K c (peerChunk oM c j) (ownChunk oM c) (semAt cc0_scratch3 (1 + j.val) (lt_fwd j)) 2 j
      (semAt_2 _ _ (fwd_eq j) _) rfl ∅ ∅ (.inr rfl) (.inr rfl))
    isplitr; · iexact HC
    isplitl [HO] <;> iassumption
  iintro %b ⟨HO, H2⟩
  isplitl [HO]; · iexact HO
  isplitl [H0]; · iexact H0
  iexact H2

end Cert.AllReduce

end
-- ==== Proof.Local.lean ====
/-
# `Local`: the steps within a device

The own chunk is put into slot 0 of the receive buffer; the sixteen high slots are read once they are there; the low ones then, and the
sum of both is written to the own chunk of the result.
-/
module

public import proofs.«01_k».proof.Proof.Iter

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The own chunk into slot 0 -/

theorem own_rect_set (p : Dev nD) {o : Fin 2 → ℕ} (h : o = ![16 * p.val, 0]) (hi : ∀ b, o b + S16x512.size b ≤ S512x512.size b) :
    (Rect.unit (s := S512x512) o S16x512.size hi).set = chunkSet p := by
  subst h; rfl
/-- Where the own rows lie. -/
theorem own_rect_emb (p : Dev nD) {o : Fin 2 → ℕ} (h : o = ![16 * p.val, 0]) (hi : ∀ b, o b + S16x512.size b ≤ S512x512.size b)
    (y : S16x512.Idx) : (Rect.unit (s := S512x512) o S16x512.size hi).emb y = rowIx p (y 0) (y 1) := by
  subst h; exact chunk_emb p y

/-- The kernel's slot-0 payload holds the chunk's elements. -/
theorem pay1_apply (v : Vec F S16x512 .f32) (u : Fin 1) (r : Fin 16) (k : Fin 512) : k0_pay1 v (ix3 u r k) = v (ix2 r k) := by
  show shapeCast S1x16x512 (shapeCast S1x16x512 (shapeCast S16x512 v shapeCasts_S16x512_S16x512) shapeCasts_S16x512_S1x16x512)
    shapeCasts_S1x16x512_S1x16x512 (ix3 u r k) = _
  rw [shapeCast_self, shapeCast_self]
  exact shapeCast_ab_1ab_apply v _ u r k

/-- The own rows, -/
abbrev ownRect (c : Dev nD) : Rect S512x512 := Rect.unit (s := S512x512) (k0_off2 c) S16x512.size (k0_off2_inb c)
/-- and slot 0. -/
abbrev zeroRect : Rect S32x16x512 := Rect.unit (s := S32x16x512) ![0, 0, 0] S1x16x512.size inb_S32x16x512_S1x16x512_0_0_0

/-- Where slot 0 lies. -/
theorem zero_emb (y : S1x16x512.Idx) : zeroRect.emb y = ix3 (0 : Fin 32) (y 1) (y 2) := by
  have h0 : (y 0).val < 1 := (y 0).isLt
  funext a
  apply Fin.ext
  fin_cases a
  · show 0 + 1 * (y 0).val = 0
    omega
  · show 0 + 1 * (y 1).val = (y 1).val
    omega
  · show 0 + 1 * (y 2).val = (y 2).val
    omega

/-- A block stored over slot 0, element by element. -/
theorem stored_zero (f : S32x16x512.Idx → Elt F .f32) (w : S1x16x512.Idx → Elt F .f32) (i : S32x16x512.Idx) (hi : i ∈ slotSet 0) :
    ((rM.access zeroRect : View sig .tc _ _ _).write (Elt F) f w Finset.univ : S32x16x512.Idx → Elt F .f32) i
      = w (ix3 (0 : Fin 1) (i 1) (i 2)) := by
  have e : i = zeroRect.emb (ix3 (0 : Fin 1) (i 1) (i 2)) := by
    rw [zero_emb]
    have h0 : i 0 = (0 : Fin 32) := Fin.ext (mem_slotSet.mp hi)
    funext a
    fin_cases a
    · exact h0
    · rfl
    · rfl
  refine Eq.trans (congrArg _ e) ?_
  exact View.write_emb_of_mem (v := (rM.access zeroRect : View sig .tc _ _ _)) f w (Finset.mem_univ (ix3 (0 : Fin 1) (i 1) (i 2)))

/-- The own chunk of the input, stored over slot 0, is what `rsAll` says. -/
theorem filled_zero (c : Dev nD) (f : S32x16x512.Idx → Elt F .f32) (v : Vec F S16x512 .f32)
    (hv : v = fun y => xstg m ρ c (rowIx c (y 0) (y 1))) (i : S32x16x512.Idx) (hi : i ∈ slotSet 0) :
    ((rM.access zeroRect : View sig .tc _ _ _).write (Elt F) f (k0_pay1 v) Finset.univ : S32x16x512.Idx → Elt F .f32) i
      = rsAll m ρ c i := by
  have h0 : (i 0).val = 0 := mem_slotSet.mp hi
  refine (stored_zero f _ i hi).trans ((pay1_apply v 0 (i 1) (i 2)).trans ?_)
  rw [hv]
  unfold rsAll
  rw [h0, sh_zero]

/-- Reading the own rows reads the own chunk. -/
theorem read_own (c : Dev nD) (f : S512x512.Idx → Elt F .f32) :
    ((xM.access (ownRect c) : View sig .tc _ _ _).read (Elt F) f : Vec F S16x512 .f32) = fun y => f (rowIx c (y 0) (y 1)) := by
  funext y
  show f ((ownRect c).emb y) = _
  rw [own_rect_emb c (k0_off2_eq c)]

/-- The own chunk of the input goes to slot 0. -/
theorem own_step (c : Dev nD) :
    iprop(xPts m ρ c c ∗ ∃ f, slotPts c 0 f) ⊢ runs c (ownStep xM rM c) (fun _ => iprop(xPts m ρ c c ∗ slotPts c 0 (rsAll m ρ c))) := by
  unfold ownStep runs xPts slotPts
  simp only [Prog.lift, Prog.bind_op, Prog.bind_ret, Prog.pure_eq_ret]
  iintro ⟨Hx, ⟨%f, Hs⟩⟩
  iapply (wp_load_rect 𝒱₀ (c : Thread nD τ) none Set.univ (m := xM) (r := ownRect c)
    (by rw [View.set_slice_whole, own_rect_set c (k0_off2_eq c)])) $$ Hx
  iintro Hx
  iapply (wp_load_rect 𝒱₀ (c : Thread nD τ) none Set.univ (m := rM) (r := zeroRect)
    (by rw [View.set_slice_whole]; exact Finset.Subset.refl _)) $$ Hs
  iintro Hs
  iapply (wp_store 𝒱₀ (c : Thread nD τ) none Set.univ (m := rM) (r := zeroRect) (Mk := Finset.univ)
    (by rw [View.setOn_univ, View.set_slice_whole]; exact Finset.Subset.refl _)) $$ Hs
  iintro Hs
  rw [wp_ret]; imodintro
  isplitl [Hx]; · iexact Hx
  iapply (Entails.of_eq (pointsTo_congr (filled_zero m ρ c f _ (read_own c _)))) $$ Hs

/-! ## The sums -/

/-- All of a device's receive buffer, filled. -/
def rsWhole (c : Dev nD) (S : Finset S32x16x512.Idx) : sProp 𝕄 := ((c : Thread nD τ).loc cc0_scratch0) ↦[S]{fullShare} rsAll m ρ c

/-- Sixteen slots of the filled receive buffer are read. -/
theorem high_step (c : Dev nD) (S : Finset S32x16x512.Idx) (hS : rectHigh.set ⊆ S) :
    rsWhole m ρ c S ⊢ runs c (loadHigh rM) (fun v => iprop(rsWhole m ρ c S
      ∗ ⌜v = rM.view.readAt (Elt F) rectHigh.toLoadRect (rsAll m ρ c)⌝)) := by
  unfold loadHigh runs rsWhole
  simp only [Prog.lift]
  iintro H
  iapply (wp_load_rect 𝒱₀ (c : Thread nD τ) none Set.univ (m := rM) (r := rectHigh)
    (by rw [View.set_slice_whole]; exact hS)) $$ H
  iintro H
  rw [wp_ret]; imodintro
  isplitl [H]; · iexact H
  ipureintro; rfl

/-- A block stored over the own chunk of the result, element by element. -/
theorem stored_own (c : Dev nD) (f : S512x512.Idx → Elt F .f32) (w : S16x512.Idx → Elt F .f32) (i : S512x512.Idx) (hi : i ∈ chunkSet c) :
    ((oM.access (ownRect c) : View sig .tc _ _ _).write (Elt F) f w Finset.univ : S512x512.Idx → Elt F .f32) i = w (inChunk i) := by
  have e : i = (ownRect c).emb (inChunk i) := by
    rw [own_rect_emb c (k0_off2_eq c)]
    have h0 : (i 0).val / 16 = c.val := congrArg Fin.val (mem_chunkSet.mp hi)
    funext a
    apply Fin.ext
    fin_cases a
    · show (i 0).val = 16 * c.val + (i 0).val % 16
      omega
    · rfl
  refine Eq.trans (congrArg _ e) ?_
  exact View.write_emb_of_mem (v := (oM.access (ownRect c) : View sig .tc _ _ _)) f w (Finset.mem_univ (inChunk i))

/-- The reduced chunk, stored over the own chunk of the result, is what `outAll` says. -/
theorem filled_own (c : Dev nD) (f : S512x512.Idx → Elt F .f32) (i : S512x512.Idx) (hi : i ∈ chunkSet c) :
    ((oM.access (ownRect c) : View sig .tc _ _ _).write (Elt F) f (redAt m ρ c) Finset.univ : S512x512.Idx → Elt F .f32) i
      = outAll m ρ i := by
  rw [stored_own c f _ i hi]
  unfold outAll
  rw [mem_chunkSet.mp hi]

/-- The other sixteen slots are read, and the sum of all goes to the own chunk of the result. -/
theorem reduce_step (c : Dev nD) :
    iprop(rsWhole m ρ c Finset.univ ∗ ∃ f, oPts c c fullShare f)
      ⊢ runs c (reduceStep oM rM c (rM.view.readAt (Elt F) rectHigh.toLoadRect (rsAll m ρ c)))
          (fun _ => iprop(rsWhole m ρ c Finset.univ ∗ oPts c c fullShare (outAll m ρ))) := by
  unfold reduceStep runs rsWhole oPts
  simp only [Prog.lift, Prog.bind_op, Prog.bind_ret, Prog.pure_eq_ret]
  iintro ⟨Hs, ⟨%f, Ho⟩⟩
  iapply (wp_load_rect 𝒱₀ (c : Thread nD τ) none Set.univ (m := rM) (r := rectLow) (Finset.subset_univ _)) $$ Hs
  iintro Hs
  iapply (wp_load_rect 𝒱₀ (c : Thread nD τ) none Set.univ (m := oM) (r := ownRect c)
    (by rw [View.set_slice_whole, own_rect_set c (k0_off2_eq c)])) $$ Ho
  iintro Ho
  iapply (wp_store 𝒱₀ (c : Thread nD τ) none Set.univ (m := oM) (r := ownRect c) (Mk := Finset.univ)
    (by rw [View.setOn_univ, View.set_slice_whole, own_rect_set c (k0_off2_eq c)])) $$ Ho
  iintro Ho
  rw [wp_ret]; imodintro
  isplitl [Hs]; · iexact Hs
  iapply (Entails.of_eq (pointsTo_congr (filled_own m ρ c f))) $$ Ho

end Cert.AllReduce

end
-- ==== Proof.Pieces.lean ====
/-
# `Pieces`: the buffers cut into pieces and put together again

Everything a device holds for the exchange is listed by the offset to a peer. Here its buffers are listed so: the own chunk apart and one chunk or slot for
each offset; and the own reduced chunk at full share is one share for itself and one for each copy that reads it.
-/
module

public import proofs.«01_k».proof.Proof.Local

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Lists of assertions -/

/-- Number 0 apart from the others. -/
theorem bigSep_succ {n : ℕ} (Φ : Fin (n + 1) → sProp 𝕄) :
    bigSep Finset.univ Φ = iprop(Φ 0 ∗ bigSep Finset.univ fun j : Fin n => Φ j.succ) := by
  rw [Fin.univ_succ, Finset.cons_eq_insert, bigSep_insert (by simp), bigSep_map]
  rfl

/-- Going ahead of `c` by each number of places reaches each device once. -/
def shEquiv (c : Dev nD) : Fin 32 ≃ Dev nD :=
  Equiv.ofBijective (fun k : Fin 32 => sh c k.val) (by revert c; decide +kernel)

/-- The own device apart from its peers. -/
theorem bigSep_devs (c : Dev nD) (Φ : Dev nD → sProp 𝕄) :
    bigSep Finset.univ Φ = iprop(Φ c ∗ bigSep Finset.univ fun j : Fin 31 => Φ (ahead c j)) := by
  rw [bigSep_univ_equiv (shEquiv c) Φ, bigSep_succ]
  have h0 : shEquiv c 0 = c := sh_zero c
  have hj (j : Fin 31) : shEquiv c j.succ = ahead c j := (ahead_eq_sh c j).symm
  simp only [h0, hj]

/-- The offsets counted back. -/
theorem bigSep_rev (Φ : Fin 31 → sProp 𝕄) : bigSep Finset.univ (fun j : Fin 31 => Φ j.rev) = bigSep Finset.univ Φ :=
  (bigSep_univ_equiv Fin.revPerm Φ).symm

/-- What may be read again and again is there for every item of a list. -/
theorem each_with {I : Type} [DecidableEq I] {S : Finset I} {P : sProp 𝕄} [BI.Persistent P] {Φ Ψ : I → sProp 𝕄}
    (h : ∀ i, iprop(P ∗ Φ i) ⊢ Ψ i) : iprop(P ∗ bigSep S Φ) ⊢ bigSep S Ψ := by
  have e : bigSep S (fun i => iprop(P ∗ Φ i)) = iprop(bigSep S (fun _ => P) ∗ bigSep S Φ) := bigSep_sep' S (fun _ => P) Φ
  iintro ⟨#HP, H⟩
  ihave HPs := (BI.bigSep_of_persistent S P) $$ HP
  iapply ((Entails.of_eq e.symm).trans (bigSep_mono fun i _ => h i))
  isplitl [HPs] <;> iassumption

/-! ## The input's rows -/

theorem x_pieces (c : Dev nD) :
    ((((c : Thread nD τ).loc cc0_stg0_0) ↦{fullShare} xstg m ρ c : sProp 𝕄))
      = iprop(xPts m ρ c c ∗ bigSep Finset.univ fun j : Fin 31 => xPts m ρ c (ahead c j)) := by
  rw [← bigSep_devs c fun p => xPts m ρ c p]
  unfold xPts
  have h := pointsTo_biUnion (Ix := Unit) (Name := ℕ) (U := UU) (Lvl := ℕ) (ℓ := (c : Thread nD τ).loc cc0_stg0_0) (q := fullShare)
    (f := xstg m ρ c) Finset.univ chunkSet (fun p _ q _ h => chunk_disjoint h)
  rw [chunk_cover] at h
  exact h

/-! ## The result's rows -/

theorem o_pieces (c : Dev nD) (f : S512x512.Idx → Elt F .f32) :
    ((((c : Thread nD τ).loc cc0_stg1_0) ↦{fullShare} f : sProp 𝕄))
      = iprop(oPts c c fullShare f ∗ bigSep Finset.univ fun j : Fin 31 => oPts c (ahead c j) fullShare f) := by
  rw [← bigSep_devs c fun p => oPts c p fullShare f]
  unfold oPts
  have h := pointsTo_biUnion (Val := Elt F) (Ix := Unit) (Name := ℕ) (U := UU) (Lvl := ℕ) (ℓ := (c : Thread nD τ).loc cc0_stg1_0) (q := fullShare)
    (f := f) Finset.univ chunkSet (fun p _ q _ h => chunk_disjoint h)
  rw [chunk_cover] at h
  exact h

/-- The own chunk, shared out: one share stays, one goes with each copy. -/
theorem o_shares (c : Dev nD) (f : S512x512.Idx → Elt F .f32) :
    (oPts c c fullShare f : sProp 𝕄)
      = iprop(oPts c c (leafShare 0) f ∗ bigSep Finset.univ fun j : Fin 31 => oPts c c (leafShare j.succ) f) := by
  refine Eq.trans ?_ (bigSep_succ fun k : Fin 32 => oPts c c (leafShare k) f)
  unfold oPts
  have h := ShareLeaves.pointsTo_leaves (Val := Elt F) (Ix := Unit) (Name := ℕ) (U := UU) (Lvl := ℕ) (ℓ := (c : Thread nD τ).loc cc0_stg1_0)
    (chunkSet c) f 5 fullShare
  exact h

/-! ## The receive buffer -/

theorem slots_join (c : Dev nD) (S : Finset (Fin 31)) :
    (bigSep S fun j => (slotPts c j.rev.succ (rsAll m ρ c) : sProp 𝕄)) = rsWhole m ρ c (S.biUnion fun j => slotSet j.rev.succ) := by
  unfold rsWhole slotPts
  exact (pointsTo_biUnion (Ix := Unit) (Name := ℕ) (U := UU) (Lvl := ℕ) (ℓ := (c : Thread nD τ).loc cc0_scratch0) (q := fullShare)
    (f := rsAll m ρ c) S (fun j : Fin 31 => slotSet j.rev.succ) (fun i _ j _ h => slot_disjoint fun e => h
    (Fin.rev_injective (Fin.succ_injective _ e)))).symm

/-- The receive buffer is its slots. -/
theorem s_pieces (c : Dev nD) (f : S32x16x512.Idx → Elt F .f32) :
    ((((c : Thread nD τ).loc cc0_scratch0) ↦{fullShare} f : sProp 𝕄))
      = iprop(slotPts c 0 f ∗ bigSep Finset.univ fun j : Fin 31 => slotPts c j.succ f) := by
  refine Eq.trans ?_ (bigSep_succ fun k : Fin 32 => slotPts c k f)
  unfold slotPts
  have h := pointsTo_biUnion (Val := Elt F) (Ix := Unit) (Name := ℕ) (U := UU) (Lvl := ℕ) (ℓ := (c : Thread nD τ).loc cc0_scratch0) (q := fullShare)
    (f := f) Finset.univ slotSet (fun p _ q _ h => slot_disjoint h)
  rw [slot_cover] at h
  exact h

/-- The two halves of the offsets are all of them, -/
theorem offs_split : (Finset.univ : Finset (Fin 31)) = offsA.toFinset ∪ offsB.toFinset := by decide
/-- they share none, -/
theorem offs_disjoint : Disjoint offsA.toFinset offsB.toFinset := by decide
/-- the first repeats none, -/
theorem offsA_nodup : offsA.Nodup := by decide
/-- nor does the second. -/
theorem offsB_nodup : offsB.Nodup := by decide

/-- The first sixteen arrivals waited for and the others are all. -/
theorem bigSep_offs (Φ : Fin 31 → sProp 𝕄) :
    bigSep Finset.univ Φ = iprop(bigSep offsA.toFinset Φ ∗ bigSep offsB.toFinset Φ) := by
  rw [offs_split]; exact bigSep_union offs_disjoint

/-- Slots 16 to 31 are those of the first sixteen offsets, counted back. -/
theorem high_covered : rectHigh.set ⊆ offsA.toFinset.biUnion fun j => slotSet j.rev.succ := by
  intro i hi
  have h := (Rect.mem_set_unit.mp hi) 0
  have h : 16 ≤ (i 0).val ∧ (i 0).val < 16 + 16 := h
  refine Finset.mem_biUnion.mpr ⟨⟨31 - (i 0).val, by omega⟩, ?_, ?_⟩
  · have key : ∀ k : Fin 31, k.val < 16 → k ∈ offsA.toFinset := by decide
    exact key _ (by show 31 - (i 0).val < 16; omega)
  · rw [mem_slotSet, Fin.val_succ, Fin.val_rev]
    show (i 0).val = 31 - (31 - (i 0).val + 1) + 1
    omega

end Cert.AllReduce

end
-- ==== Proof.Phases.lean ====
/-
# `Phases`: the loops, each as a whole

Each loop of the kernel over the offsets, with all that its iterations take listed by offset.
-/
module

public import proofs.«01_k».proof.Proof.Pieces

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- Two lists side by side as one list of pairs, -/
theorem zip2 (S : Finset (Fin 31)) (A B : Fin 31 → sProp 𝕄) :
    (bigSep S fun j => iprop(A j ∗ B j)) = iprop(bigSep S A ∗ bigSep S B) := bigSep_sep' S A B
/-- three, -/
theorem zip3 (S : Finset (Fin 31)) (A B C : Fin 31 → sProp 𝕄) :
    (bigSep S fun j => iprop(A j ∗ B j ∗ C j)) = iprop(bigSep S A ∗ bigSep S B ∗ bigSep S C) := by
  rw [zip2 S A, zip2 S B]
/-- and four. -/
theorem zip4 (S : Finset (Fin 31)) (A B C D : Fin 31 → sProp 𝕄) :
    (bigSep S fun j => iprop(A j ∗ B j ∗ C j ∗ D j)) = iprop(bigSep S A ∗ bigSep S B ∗ bigSep S C ∗ bigSep S D) := by
  rw [zip2 S A, zip3 S B]

/-- For each offset. -/
abbrev each31 (A : Fin 31 → sProp 𝕄) : sProp 𝕄 := bigSep Finset.univ A

/-- A loop over all the offsets. -/
theorem runs_offs {c : Dev nD} {P : sProp 𝕄} [BI.Persistent P] {A : Finset (Fin 31) → sProp 𝕄} {Φ Ψ : Fin 31 → sProp 𝕄}
    {f : Fin 31 → KProg F}
    (h : ∀ j S, j ∉ S → iprop(P ∗ A (insert j S) ∗ Φ j) ⊢ runs c (f j) (fun _ => iprop(A S ∗ Ψ j))) :
    iprop(P ∗ A Finset.univ ∗ each31 Φ) ⊢ runs c (each offs f) (fun _ => iprop(A ∅ ∗ each31 Ψ)) := by
  have := runs_each h offs offs_nodup
  rwa [offs_all] at this

/-- The signals: every peer's barrier is told, with the slot and the chunk that peer writes. -/
theorem sig_phase (c : Dev nD) :
    iprop(Ctx m ρ K ∗ owesX c (owed c Finset.univ Finset.univ Finset.univ)
        ∗ (each31 fun j => dutyTok ER (barCell (ahead c j)) 0 j) ∗ (each31 fun j => iprop(∃ f, slotPts c j.succ f))
        ∗ (each31 fun j => iprop(∃ f, oPts c (ahead c j) fullShare f)))
      ⊢ runs c (each offs (sigStep c)) (fun _ => owesX c (owed c ∅ Finset.univ Finset.univ)) := by
  rw [← zip3]
  iintro H
  iapply (wp_wand _ _ _) $$ [H]
  · iapply (runs_offs (A := fun S => owesX c (owed c S Finset.univ Finset.univ)) (Ψ := fun _ => iprop(emp)) (sig_step m ρ K c)) $$ H
  iintro %a ⟨HO, -⟩
  iexact HO

/-- What the barrier's hand-overs are, by the peer they come from. -/
theorem bar_pays (c : Dev nD) :
    (each31 fun j => (barPay c j : sProp 𝕄))
      = iprop((each31 fun j => iprop(∃ f, slotPts (ahead c j) j.rev.succ f)) ∗ (each31 fun j => iprop(∃ f, oPts (ahead c j) c fullShare f))) := by
  rw [← zip2]
  refine (bigSep_rev fun j => barPay c j).symm.trans ?_
  unfold barPay
  simp only [Fin.rev_rev]

/-- The first exchange's copies are started. -/
theorem rs_phase (c : Dev nD) :
    iprop(Ctx m ρ K ∗ owesX c (owed c ∅ Finset.univ Finset.univ)
        ∗ (each31 fun j => xPts m ρ c (ahead c j)) ∗ (each31 fun j => iprop(∃ f, slotPts (ahead c j) j.rev.succ f))
        ∗ (each31 fun j => dutyTok ER (dcell c 0 j.succ) 0 0) ∗ (each31 fun j => dutyTok ER (dcell (ahead c j) 1 j.rev.succ) 0 0))
      ⊢ runs c (each offs (rsStart xM rM cc0_scratch1 cc0_scratch2 c))
          (fun _ => iprop(owesX c (owed c ∅ ∅ Finset.univ) ∗ each31 fun j => sentCred c 0 j)) := by
  rw [← zip4]
  exact runs_offs (A := fun S => owesX c (owed c ∅ S Finset.univ)) (rs_iter m ρ K c)

/-- The second exchange's copies are started. -/
theorem ag_phase (c : Dev nD) :
    iprop(Ctx m ρ K ∗ owesX c (owed c ∅ ∅ Finset.univ)
        ∗ (each31 fun j => oPts c c (leafShare j.succ) (outAll m ρ)) ∗ (each31 fun j => iprop(∃ f, oPts (ahead c j) c fullShare f))
        ∗ (each31 fun j => dutyTok ER (dcell c 2 j.succ) 0 0) ∗ (each31 fun j => dutyTok ER (dcell (ahead c j) 3 j.rev.succ) 0 0))
      ⊢ runs c (each offs (agStart oM cc0_scratch3 cc0_scratch4 c))
          (fun _ => iprop(owesX c (owed c ∅ ∅ ∅) ∗ each31 fun j => sentCred c 2 j)) := by
  rw [← zip4]
  exact runs_offs (A := fun S => owesX c (owed c ∅ ∅ S)) (ag_iter m ρ K c)

/-- The first exchange's arrivals of some of the offsets are waited for. -/
theorem rsWait_phase (c : Dev nD) (js : List (Fin 31)) (hn : js.Nodup) :
    iprop(Ctx m ρ K ∗ owesX c (owed c ∅ ∅ Finset.univ) ∗ bigSep js.toFinset fun j => waitFrom c 1 j.rev)
      ⊢ runs c (each js (rsWait xM rM cc0_scratch2)) (fun _ => iprop(owesX c (owed c ∅ ∅ Finset.univ)
          ∗ (bigSep js.toFinset fun j => atPos ER (dcell c 1 j.rev.succ) 1 ∅ 0)
          ∗ (bigSep js.toFinset fun j => slotPts c j.rev.succ (rsAll m ρ c)))) := by
  have h := runs_each (A := fun _ => owesX c (owed c ∅ ∅ Finset.univ)) (fun j S _ => rsWait_iter m ρ K c j) js hn
  have e := zip2 js.toFinset (fun j => (atPos ER (dcell c 1 j.rev.succ) 1 ∅ 0 : sProp 𝕄)) (fun j => slotPts c j.rev.succ (rsAll m ρ c))
  rw [← e]
  exact h

/-- The second exchange's arrivals are waited for. -/
theorem agWait_phase (c : Dev nD) :
    iprop(Ctx m ρ K ∗ owesX c (owed c ∅ ∅ ∅) ∗ (each31 fun j => cred (tallyAt (dcell c 3 j.succ) () N))
        ∗ (each31 fun j => atPos ER (dcell c 3 j.succ) 0 ∅ 0))
      ⊢ runs c (each offs (agWait oM cc0_scratch4 c)) (fun _ => iprop(owesX c (owed c ∅ ∅ ∅)
          ∗ (each31 fun j => atPos ER (dcell c 3 j.succ) 1 ∅ 0) ∗ (each31 fun j => dmaPay m ρ c 3 j.succ))) := by
  have h := runs_offs (A := fun _ => owesX c (owed c ∅ ∅ ∅)) (fun j S _ => agWait_iter m ρ K c j)
  have e1 := bigSep_rev (F := F) fun j => waitFrom c 3 j
  have e2 := bigSep_rev (F := F) fun j => waitTo m ρ c 3 j
  rw [each31, each31, e1, e2] at h
  rw [← zip2, ← zip2]
  exact h

/-- The departures of both exchanges are waited for. -/
theorem sentWait_phase (c : Dev nD) :
    iprop(Ctx m ρ K ∗ owesX c (owed c ∅ ∅ ∅)
        ∗ ((each31 fun j => sentCred c 0 j) ∗ (each31 fun j => atPos ER (dcell c 0 j.succ) 0 ∅ 0))
        ∗ (each31 fun j => sentCred c 2 j) ∗ (each31 fun j => atPos ER (dcell c 2 j.succ) 0 ∅ 0))
      ⊢ runs c (each offs (sentWait xM oM rM cc0_scratch1 cc0_scratch3 c)) (fun _ => iprop(owesX c (owed c ∅ ∅ ∅)
          ∗ ((each31 fun j => atPos ER (dcell c 0 j.succ) 1 ∅ 0) ∗ (each31 fun j => dmaPay m ρ c 0 j.succ))
          ∗ (each31 fun j => atPos ER (dcell c 2 j.succ) 1 ∅ 0) ∗ (each31 fun j => dmaPay m ρ c 2 j.succ))) := by
  have h := runs_offs (A := fun _ => owesX c (owed c ∅ ∅ ∅)) (fun j S _ => sentWait_iter m ρ K c j)
  rw [← zip2, ← zip2, ← zip2, ← zip2, ← zip2, ← zip2]
  exact h

end Cert.AllReduce

end
-- ==== Proof.Whole.lean ====
/-
# `Whole`: the kernel on one device, from what it holds at the start to what it holds at the end
-/
module

public import proofs.«01_k».proof.Proof.Phases

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## What a device starts from -/

/-- The positions of the used cells of array `q`, at round `r`. -/
abbrev atArr (c : Dev nD) (q : Fin 4) (r : ℕ) : sProp 𝕄 := each31 fun j => atPos ER (dcell c q j.succ) r ∅ 0
/-- The positions of the unused cell of each array. -/
abbrev atZero (c : Dev nD) : sProp 𝕄 := bigSep Finset.univ fun q : Fin 4 => atPos ER (dcell c q 0) 0 ∅ 0

/-- A device's positions, the barrier and the used cells being at round `r`. -/
def places (c : Dev nD) (r : ℕ) : sProp 𝕄 :=
  iprop(atPos ER (barCell c) r ∅ 0 ∗ atZero c ∗ atArr c 0 r ∗ atArr c 1 r ∗ atArr c 2 r ∗ atArr c 3 r)

/-- The tokens of all that the device does: signals, arrivals at its peers, departures. -/
def payToks (c : Dev nD) : sProp 𝕄 :=
  iprop((each31 fun j => dutyTok ER (barCell (ahead c j)) 0 j)
    ∗ (each31 fun j => dutyTok ER (dcell c 0 j.succ) 0 0) ∗ (each31 fun j => dutyTok ER (dcell (ahead c j) 1 j.rev.succ) 0 0)
    ∗ (each31 fun j => dutyTok ER (dcell c 2 j.succ) 0 0) ∗ (each31 fun j => dutyTok ER (dcell (ahead c j) 3 j.rev.succ) 0 0))

/-- The credits for all that the device is owed. -/
def credits (c : Dev nD) : sProp 𝕄 :=
  iprop(cred (tallyAt (barCell c) () 31) ∗ (each31 fun j => cred (tallyAt (dcell c 1 j.succ) () N))
    ∗ each31 fun j => cred (tallyAt (dcell c 3 j.succ) () N))

/-- The device's rows of the input, -/
abbrev xAll (c : Dev nD) : sProp 𝕄 := ((c : Thread nD τ).loc cc0_stg0_0) ↦{fullShare} xstg m ρ c
/-- its result, holding `f`, -/
abbrev oWhole (c : Dev nD) (f : S512x512.Idx → Elt F .f32) : sProp 𝕄 := ((c : Thread nD τ).loc cc0_stg1_0) ↦{fullShare} f
/-- and its receive buffer, holding `f`. -/
abbrev sWhole (c : Dev nD) (f : S32x16x512.Idx → Elt F .f32) : sProp 𝕄 := ((c : Thread nD τ).loc cc0_scratch0) ↦{fullShare} f

/-! ## Pieces whose contents do not matter -/

theorem one_o (c p : Dev nD) (f : S512x512.Idx → Elt F .f32) : (oPts c p fullShare f : sProp 𝕄) ⊢ iprop(∃ f, oPts c p fullShare f) := by
  iintro H; iexists f; iexact H
/-- One slot of some contents, -/
theorem one_s (c : Dev nD) (k : Fin 32) (f : S32x16x512.Idx → Elt F .f32) : (slotPts c k f : sProp 𝕄) ⊢ iprop(∃ f, slotPts c k f) := by
  iintro H; iexists f; iexact H
/-- all chunks of the result of some contents, -/
theorem some_o (c : Dev nD) (f : S512x512.Idx → Elt F .f32) :
    (each31 fun j => (oPts c (ahead c j) fullShare f : sProp 𝕄)) ⊢ each31 fun j => iprop(∃ f, oPts c (ahead c j) fullShare f) :=
  bigSep_mono fun j _ => one_o c (ahead c j) f
/-- and all slots of some contents. -/
theorem some_s (c : Dev nD) (f : S32x16x512.Idx → Elt F .f32) :
    (each31 fun j => (slotPts c j.succ f : sProp 𝕄)) ⊢ each31 fun j => iprop(∃ f, slotPts c j.succ f) :=
  bigSep_mono fun j _ => one_s c j.succ f

/-! ## The pieces that come back -/

/-- All the slots filled are the receive buffer filled. -/
theorem slots_whole (c : Dev nD) :
    iprop(slotPts c 0 (rsAll m ρ c) ∗ (bigSep offsA.toFinset fun j => slotPts c j.rev.succ (rsAll m ρ c))
        ∗ bigSep offsB.toFinset fun j => slotPts c j.rev.succ (rsAll m ρ c)) = rsWhole m ρ c Finset.univ := by
  rw [← bigSep_offs, bigSep_rev fun j => slotPts c j.succ (rsAll m ρ c)]
  exact (s_pieces c (rsAll m ρ c)).symm

/-- What the departures of the first exchange hand back, -/
theorem pays_x (c : Dev nD) : (each31 fun j => dmaPay m ρ c 0 j.succ) = each31 fun j => xPts m ρ c (ahead c j) :=
  bigSep_congr fun j _ => by rw [ahead_eq_sh]; rfl
/-- and what the arrivals of the second hand over. -/
theorem pays_o (c : Dev nD) : (each31 fun j => dmaPay m ρ c 3 j.succ) = each31 fun j => oPts c (ahead c j) fullShare (outAll m ρ) :=
  bigSep_congr fun j _ => by rw [ahead_eq_sh]; rfl

/-! ## The run -/

/-- The kernel's loops on device `c`: its rows of the input stay, its result is `outAll`. -/
theorem run_loops (c : Dev nD) :
    iprop(Ctx m ρ K ∗ owesX c (O₀ c) ∗ places c 0 ∗ payToks c ∗ credits c ∗ xAll m ρ c ∗ (∃ f, oWhole c f) ∗ ∃ f, sWhole c f)
      ⊢ runs c (loops xM oM rM cc0_scratch1 cc0_scratch2 cc0_scratch3 cc0_scratch4)
          (fun _ => iprop(owesX c 0 ∗ places c 1 ∗ xAll m ρ c ∗ oWhole c (outAll m ρ) ∗ sWhole c (rsAll m ρ c))) := by
  unfold places payToks credits
  iintro ⟨#HC, HO, ⟨HaB, HaZ, Ha0, Ha1, Ha2, Ha3⟩, ⟨HtB, Ht0, Ht1, Ht2, Ht3⟩, ⟨HcB, Hc1, Hc3⟩, Hx, ⟨%fo, Ho⟩, ⟨%fs, Hs⟩⟩
  ihave Hx := (Entails.of_eq (x_pieces m ρ c)) $$ Hx
  icases Hx with ⟨Hx, Hxs⟩
  ihave Ho := (Entails.of_eq (o_pieces c fo)) $$ Ho
  icases Ho with ⟨Ho, Hos⟩
  ihave Hs := (Entails.of_eq (s_pieces c fs)) $$ Hs
  icases Hs with ⟨Hs, Hss⟩
  ihave Hos := (some_o c fo) $$ Hos
  ihave Hss := (some_s c fs) $$ Hss
  unfold loops
  simp only [Prog.lift, Prog.bind_op, Prog.bind_ret, wp_deviceId]
  -- the signals and the barrier
  iapply (runs_seq (sig_phase m ρ K c)) $$ [HO HtB Hss Hos]
  · isplitr; · iexact HC
    isplitl [HO]; · iexact HO
    isplitl [HtB]; · iexact HtB
    isplitl [Hss] <;> iassumption
  iintro %a HO
  iapply (runs_seq (bar_step m ρ K c)) $$ [HO HcB HaB]
  · isplitr; · iexact HC
    isplitl [HO]; · iexact HO
    isplitl [HcB] <;> iassumption
  iintro %a ⟨HO, HaB, Hp⟩
  ihave Hp := (Entails.of_eq (bar_pays c)) $$ Hp
  icases Hp with ⟨Hss, Hos⟩
  -- the first exchange
  iapply (runs_seq (rs_phase m ρ K c)) $$ [HO Hxs Hss Ht0 Ht1]
  · isplitr; · iexact HC
    isplitl [HO]; · iexact HO
    isplitl [Hxs]; · iexact Hxs
    isplitl [Hss]; · iexact Hss
    isplitl [Ht0] <;> iassumption
  iintro %a ⟨HO, Hc0⟩
  iapply (runs_seq (own_step m ρ c)) $$ [Hx Hs]
  · isplitl [Hx]; · iexact Hx
    iexists fs; iexact Hs
  iintro %a ⟨Hx, Hs⟩
  have ew : iprop((each31 fun j => cred (tallyAt (dcell c 1 j.succ) () N)) ∗ atArr c 1 0)
      = iprop((bigSep offsA.toFinset fun j => (waitFrom c 1 j.rev : sProp 𝕄)) ∗ bigSep offsB.toFinset fun j => waitFrom c 1 j.rev) := by
    rw [← zip2, ← bigSep_offs, bigSep_rev fun j => waitFrom c 1 j]
  ihave Hw := (Entails.of_eq ew) $$ [Hc1 Ha1]
  · isplitl [Hc1] <;> iassumption
  icases Hw with ⟨HwA, HwB⟩
  iapply (runs_seq (rsWait_phase m ρ K c offsA offsA_nodup)) $$ [HO HwA]
  · isplitr; · iexact HC
    isplitl [HO] <;> iassumption
  iintro %a ⟨HO, HaA, HsA⟩
  ihave HsA := (Entails.of_eq (slots_join m ρ c offsA.toFinset)) $$ HsA
  iapply (runs_seq (high_step m ρ c _ high_covered)) $$ HsA
  iintro %v ⟨HsA, %hv⟩
  subst hv
  ihave HsA := (Entails.of_eq (slots_join m ρ c offsA.toFinset).symm) $$ HsA
  iapply (runs_seq (rsWait_phase m ρ K c offsB offsB_nodup)) $$ [HO HwB]
  · isplitr; · iexact HC
    isplitl [HO] <;> iassumption
  iintro %a ⟨HO, HaB1, HsB⟩
  ihave Hs := (Entails.of_eq (slots_whole m ρ c)) $$ [Hs HsA HsB]
  · isplitl [Hs]; · iexact Hs
    isplitl [HsA] <;> iassumption
  have ea : iprop((bigSep offsA.toFinset fun j => (atPos ER (dcell c 1 j.rev.succ) 1 ∅ 0 : sProp 𝕄))
      ∗ bigSep offsB.toFinset fun j => atPos ER (dcell c 1 j.rev.succ) 1 ∅ 0) = atArr c 1 1 := by
    rw [← bigSep_offs, bigSep_rev fun j => atPos ER (dcell c 1 j.succ) 1 ∅ 0]
  ihave Ha1 := (Entails.of_eq ea) $$ [HaA HaB1]
  · isplitl [HaA] <;> iassumption
  -- the sums
  iapply (runs_seq (reduce_step m ρ c)) $$ [Hs Ho]
  · isplitl [Hs]; · iexact Hs
    iexists fo; iexact Ho
  iintro %a ⟨Hs, Ho⟩
  -- the second exchange
  ihave Ho := (Entails.of_eq (o_shares c (outAll m ρ))) $$ Ho
  icases Ho with ⟨Ho, Hol⟩
  iapply (runs_seq (ag_phase m ρ K c)) $$ [HO Hol Hos Ht2 Ht3]
  · isplitr; · iexact HC
    isplitl [HO]; · iexact HO
    isplitl [Hol]; · iexact Hol
    isplitl [Hos]; · iexact Hos
    isplitl [Ht2] <;> iassumption
  iintro %a ⟨HO, Hc2⟩
  iapply (runs_seq (agWait_phase m ρ K c)) $$ [HO Hc3 Ha3]
  · isplitr; · iexact HC
    isplitl [HO]; · iexact HO
    isplitl [Hc3] <;> iassumption
  iintro %a ⟨HO, Ha3, Hos⟩
  iapply (wp_wand _ _ _) $$ [HO Hc0 Ha0 Hc2 Ha2]
  · iapply (sentWait_phase m ρ K c)
    isplitr; · iexact HC
    isplitl [HO]; · iexact HO
    isplitl [Hc0 Ha0]
    · isplitl [Hc0] <;> iassumption
    isplitl [Hc2] <;> iassumption
  iintro %a ⟨HO, ⟨Ha0, Hxs⟩, Ha2, Hol⟩
  -- everything put together again
  isplitl [HO]
  · have e0 : (owed c ∅ ∅ ∅ : CellTallies nD τ sig Unit) = 0 := by
      rw [owed, owedSig_empty, owedArr_empty, owedArr_empty, add_zero, add_zero]
    rw [e0]
    iexact HO
  isplitl [HaB HaZ Ha0 Ha1 Ha2 Ha3]
  · isplitl [HaB]; · iexact HaB
    isplitl [HaZ]; · iexact HaZ
    isplitl [Ha0]; · iexact Ha0
    isplitl [Ha1]; · iexact Ha1
    isplitl [Ha2] <;> iassumption
  isplitl [Hx Hxs]
  · iapply (Entails.of_eq (x_pieces m ρ c).symm)
    isplitl [Hx]; · iexact Hx
    iapply (Entails.of_eq (pays_x m ρ c)) $$ Hxs
  isplitl [Ho Hol Hos]
  · iapply (Entails.of_eq (o_pieces c (outAll m ρ)).symm)
    isplitl [Ho Hol]
    · iapply (Entails.of_eq (o_shares c (outAll m ρ)).symm)
      isplitl [Ho]; · iexact Ho
      iexact Hol
    iapply (Entails.of_eq (pays_o m ρ c)) $$ Hos
  unfold rsWhole
  iexact Hs

/-! ## Closing the semaphores -/

theorem close_bar (c : Dev nD) : iprop(Ctx m ρ K ∗ atPos ER (barCell c) 1 ∅ 0) ⊢ |={Set.univ}=> (semVal (barCell c) 0 : sProp 𝕄) := by
  iintro ⟨#HC, Ha⟩
  ihave #HI := (inv_at m ρ K (c, .inl ())) $$ HC
  iapply (Rounds.cell_close ER (exRd m ρ) (Set.mem_univ (K (c, .inl ()))) (fun h => h) (R := 1) (duties_later m ρ (barCell c)))
  isplitr; · iexact HI
  iexact Ha
/-- A used semaphore is closed at zero, -/
theorem close_succ (c : Dev nD) (q : Fin 4) (j : Fin 31) :
    iprop(Ctx m ρ K ∗ atPos ER (dcell c q j.succ) 1 ∅ 0) ⊢ |={Set.univ}=> (semVal (dcell c q j.succ) 0 : sProp 𝕄) := by
  iintro ⟨#HC, Ha⟩
  ihave #HI := (inv_at m ρ K (c, .inr (q, j.succ))) $$ HC
  iapply (Rounds.cell_close ER (exRd m ρ) (Set.mem_univ (K (c, .inr (q, j.succ)))) (fun h => h) (R := 1) (duties_later m ρ (dcell c q j.succ)))
  isplitr; · iexact HI
  iexact Ha
/-- so is the unused one of an array, -/
theorem close_zero (c : Dev nD) (q : Fin 4) :
    iprop(Ctx m ρ K ∗ atPos ER (dcell c q 0) 0 ∅ 0) ⊢ |={Set.univ}=> (semVal (dcell c q 0) 0 : sProp 𝕄) := by
  iintro ⟨#HC, Ha⟩
  ihave #HI := (inv_at m ρ K (c, .inr (q, 0))) $$ HC
  iapply (Rounds.cell_close ER (exRd m ρ) (Set.mem_univ (K (c, .inr (q, 0)))) (fun h => h) (R := 0) (duties_unused m ρ c q))
  isplitr; · iexact HI
  iexact Ha

/-- so is a whole array, -/
theorem close_arr (c : Dev nD) (q : Fin 4) :
    iprop(Ctx m ρ K ∗ atArr c q 1) ⊢ |={Set.univ}=> (each31 fun j => semVal (dcell c q j.succ) 0 : sProp 𝕄) :=
  (each_with (close_succ m ρ K c q)).trans (bigSep_fupd _ _)
/-- and so are the unused ones together. -/
theorem close_zeros (c : Dev nD) :
    iprop(Ctx m ρ K ∗ atZero c) ⊢ |={Set.univ}=> (bigSep Finset.univ fun q : Fin 4 => semVal (dcell c q 0) 0 : sProp 𝕄) :=
  (each_with (close_zero m ρ K c)).trans (bigSep_fupd _ _)

/-- The four arrays. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What is listed by array and number, number 0 apart. -/
theorem bigSep_arrays (Φ : Fin 4 × Fin 32 → sProp 𝕄) :
    bigSep Finset.univ Φ = iprop((bigSep Finset.univ fun q : Fin 4 => Φ (q, 0)) ∗ (each31 fun j => Φ (0, j.succ)) ∗ (each31 fun j => Φ (1, j.succ))
      ∗ (each31 fun j => Φ (2, j.succ)) ∗ each31 fun j => Φ (3, j.succ)) := by
  have e : (bigSep Finset.univ fun q : Fin 4 => bigSep Finset.univ fun k : Fin 32 => Φ (q, k))
      = bigSep Finset.univ fun q : Fin 4 => iprop(Φ (q, 0) ∗ each31 fun j => Φ (q, j.succ)) :=
    bigSep_congr fun q _ => bigSep_succ fun k : Fin 32 => Φ (q, k)
  rw [bigSep_univ_prod, e, bigSep_sep', bigSep_four fun q => each31 fun j => Φ (q, j.succ)]

/-- At the end every semaphore of the device is back at zero. -/
theorem close_all (c : Dev nD) :
    iprop(Ctx m ρ K ∗ places c 1)
      ⊢ |={Set.univ}=> iprop(semVal (barCell c) 0 ∗ (bigSep Finset.univ fun qk : Fin 4 × Fin 32 => semVal (dcell c qk.1 qk.2) 0) : sProp 𝕄) := by
  unfold places
  rw [bigSep_arrays]
  iintro ⟨#HC, HaB, HaZ, Ha0, Ha1, Ha2, Ha3⟩
  imod (close_bar m ρ K c) $$ [HaB] with HaB
  · isplitr; · iexact HC
    iexact HaB
  imod (close_zeros m ρ K c) $$ [HaZ] with HaZ
  · isplitr; · iexact HC
    iexact HaZ
  imod (close_arr m ρ K c 0) $$ [Ha0] with Ha0
  · isplitr; · iexact HC
    iexact Ha0
  imod (close_arr m ρ K c 1) $$ [Ha1] with Ha1
  · isplitr; · iexact HC
    iexact Ha1
  imod (close_arr m ρ K c 2) $$ [Ha2] with Ha2
  · isplitr; · iexact HC
    iexact Ha2
  imod (close_arr m ρ K c 3) $$ [Ha3] with Ha3
  · isplitr; · iexact HC
    iexact Ha3
  imodintro
  isplitl [HaB]; · iexact HaB
  isplitl [HaZ]; · iexact HaZ
  isplitl [Ha0]; · iexact Ha0
  isplitl [Ha1]; · iexact Ha1
  isplitl [Ha2] <;> iassumption

end Cert.AllReduce

end
-- ==== Proof.Device.lean ====
/-
# `Device`: what the run of the call asks of each device

The call has one grid point. Before it a device holds its ghost state, credits and receive buffer; after it the receive buffer again and its semaphores at
zero. Window 0 stages the input in, window 1 the result out.
-/
module

public import proofs.«01_k».proof.Proof.Whole

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The ghost state the launch deals a device: its positions, its tokens and, at some names, what every step reads. -/
def dealt (c : Dev nD) : sProp 𝕄 := iprop((∃ K, records m ρ K) ∗ places c 0 ∗ payToks c)

/-- What a device's kernel starts from besides its buffers. -/
def start (c : Dev nD) : sProp 𝕄 := iprop(dealt m ρ c ∗ credits c ∗ levAts L lv)

/-- A device's semaphores at zero. -/
def zeroed (c : Dev nD) : sProp 𝕄 :=
  iprop(semVal (barCell c) 0 ∗ bigSep Finset.univ fun qk : Fin 4 × Fin 32 => semVal (dcell c qk.1 qk.2) 0)

/-- What a device has before its body, -/
def before₀ (c : Dev nD) : sProp 𝕄 := iprop(start m ρ c ∗ ∃ f, sWhole c f)
/-- and after it. -/
def after₀ (c : Dev nD) : sProp 𝕄 := iprop(zeroed c ∗ ∃ f, sWhole c f)

/-- The proof data of the call's one pipeline. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAll m ρ
  Φ t := match t with
    | ⟨0, _⟩ => before₀ m ρ c
    | ⟨_ + 1, _⟩ => after₀ c
  q _ := fullShare
  owed t := match t with
    | ⟨0, _⟩ => O₀ c
    | ⟨_ + 1, _⟩ => 0

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A staging buffer held whole is the points-to of its contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body meets at the grid point, -/
def pre (c : Dev nD) : sProp 𝕄 :=
  iprop(before₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it leaves. -/
def post (c : Dev nD) : sProp 𝕄 :=
  iprop(after₀ c ∗ (dats m ρ 0 c).owesAt () t0_0.succ ∗ stg c cc0_stg0_0 (xstg m ρ c) ∗ stg c cc0_stg1_0 (outAll m ρ))

/-- What the device owes at the start, -/
theorem owes_in (c : Dev nD) : (dats m ρ 0 c).owesAt () t0_0.castSucc ⊢ owesX c (O₀ c) := by
  unfold Dat.owesAt Pipeline.owesWithin owesX
  iintro ⟨%W, -, H⟩
  iexists W
  iexact H
/-- and nothing at the end. -/
theorem owes_out (c : Dev nD) : owesX c 0 ⊢ (dats m ρ 0 c).owesAt () t0_0.succ := by
  unfold Dat.owesAt Pipeline.owesWithin owesX
  iintro ⟨%W, H⟩
  iexists W
  isplitr; · ipureintro; exact fun _ _ => Or.inl trivial
  iexact H

/-- The kernel's body on a device. -/
theorem run_body (c : Dev nD) : pre m ρ c ⊢ runs c (bodyAt0 t0_0) (fun _ => post m ρ c) := by
  have e : (bodyAt0 t0_0 : KProg F) = loops xM oM rM cc0_scratch1 cc0_scratch2 cc0_scratch3 cc0_scratch4 :=
    body_eq (F := F) xM (hstage0_0 0) oM (hstage0_1 0) rM (Memref.isWhole_whole _) cc0_scratch1 cc0_scratch2 cc0_scratch3 cc0_scratch4
  rw [e]
  unfold pre before₀ start dealt
  iintro ⟨⟨⟨⟨⟨%K, #HR⟩, Hpl, Hto⟩, Hcr, #HL⟩, Hs⟩, HO, ⟨%d0, %g0, %hg0, Hx⟩, ⟨%d1, %g1, %hg1, Ho⟩⟩
  have hx : g0 = xstg m ρ c := by rw [hg0]; unfold Dat.before; rw [if_pos (fetch0_0 t0_0)]; rfl
  subst hx
  ihave HO := (owes_in m ρ c) $$ HO
  iapply (wp_fupd _ _ _ _ _)
  iapply (wp_wand _ _ _) $$ [Hpl Hto Hcr Hs HO Hx Ho]
  · iapply (run_loops m ρ K c)
    isplitr
    · unfold Ctx; isplitr; · iexact HR
      iexact HL
    isplitl [HO]; · iexact HO
    isplitl [Hpl]; · iexact Hpl
    isplitl [Hto]; · iexact Hto
    isplitl [Hcr]; · iexact Hcr
    isplitl [Hx]; · iexact Hx
    isplitl [Ho]; · iexists g1; iexact Ho
    iexact Hs
  iintro %a ⟨HO, Hpl, Hx, Ho, Hs⟩
  imod (close_all m ρ K c) $$ [Hpl] with Hz
  · isplitr
    · unfold Ctx; isplitr; · iexact HR
      iexact HL
    iexact Hpl
  imodintro
  unfold post after₀ zeroed
  isplitl [Hz Hs]
  · isplitl [Hz]; · iexact Hz
    iexists _; iexact Hs
  isplitl [HO]; · iapply (owes_out m ρ c) $$ HO
  isplitl [Hx]
  · iexists _; isplitr; · (ipureintro; rfl)
    iexact Hx
  iexists _; isplitr; · (ipureintro; rfl)
  iexact Ho

/-- The body's obligation to the pipeline. -/
theorem obligation (c : Dev nD) : BodyObligation (dats (F := F) m ρ 0 c) (defs₀ (F := F)) 𝒱₀ () Set.univ := fun t => by
  rw [fin_N0 t]
  have eW (Φ : Fin cfg0.W → sProp 𝕄) : bigSep Finset.univ Φ = iprop(Φ (0 : Fin 2) ∗ Φ (1 : Fin 2)) := bigSep_W0 Φ
  rw [eW, eW]
  simp only [owns_stg]
  exact run_body m ρ c

end Cert.AllReduce

end
-- ==== Proof.Deal.lean ====
/-
# `Deal`: the ghost state, minted at the launch and dealt to the devices

Every device's semaphores are minted with the tokens of the duties on them. A token goes to the device that does the duty: the barrier's and the arrivals' to the
peer they come from, the departures' to the device itself. And what each device is owed by all the others together is its credit.
-/
module

public import proofs.«01_k».proof.Proof.Device

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Pairs of a device and an offset, seen from the peer -/

/-- From the peer, the same offset. -/
def fromPeer : Dev nD × Fin 31 ≃ Dev nD × Fin 31 :=
  ⟨fun cj => (ahead cj.1 cj.2, cj.2), fun cj => (ahead cj.1 cj.2.rev, cj.2),
    fun cj => Prod.ext (ahead_rev cj.1 cj.2) rfl,
    fun cj => Prod.ext (by have := ahead_rev cj.1 cj.2.rev; rwa [Fin.rev_rev] at this) rfl⟩
/-- From the peer, the offset counted back. -/
def fromPeerBack : Dev nD × Fin 31 ≃ Dev nD × Fin 31 :=
  ⟨fun cj => (ahead cj.1 cj.2, cj.2.rev), fun cj => (ahead cj.1 cj.2, cj.2.rev),
    fun cj => Prod.ext (ahead_rev cj.1 cj.2) (Fin.rev_rev cj.2), fun cj => Prod.ext (ahead_rev cj.1 cj.2) (Fin.rev_rev cj.2)⟩

/-- What is listed by device and offset, listed by the peer. -/
theorem at_peer (Φ : Dev nD × Fin 31 → sProp 𝕄) :
    (bigSep Finset.univ fun c : Dev nD => each31 fun j => Φ (c, j)) = bigSep Finset.univ fun c : Dev nD => each31 fun j => Φ (ahead c j, j) := by
  have h := bigSep_univ_equiv fromPeer Φ
  rw [bigSep_univ_prod, bigSep_univ_prod] at h
  exact h
/-- Regrouping by the peer with the offset that leads back. -/
theorem at_peer_back (Φ : Dev nD × Fin 31 → sProp 𝕄) :
    (bigSep Finset.univ fun c : Dev nD => each31 fun j => Φ (c, j)) = bigSep Finset.univ fun c : Dev nD => each31 fun j => Φ (ahead c j, j.rev) := by
  have h := bigSep_univ_equiv fromPeerBack Φ
  rw [bigSep_univ_prod, bigSep_univ_prod] at h
  exact h

/-- The same for sums. -/
theorem sum_peer (f : Dev nD × Fin 31 → ℕ) : (∑ c : Dev nD, ∑ j : Fin 31, f (ahead c j, j)) = ∑ c : Dev nD, ∑ j : Fin 31, f (c, j) := by
  rw [← Fintype.sum_prod_type', ← Fintype.sum_prod_type']
  exact Equiv.sum_comp fromPeer f
/-- The same of a sum, with the offset that leads back. -/
theorem sum_peer_back (f : Dev nD × Fin 31 → ℕ) :
    (∑ c : Dev nD, ∑ j : Fin 31, f (ahead c j, j.rev)) = ∑ c : Dev nD, ∑ j : Fin 31, f (c, j) := by
  rw [← Fintype.sum_prod_type', ← Fintype.sum_prod_type']
  exact Equiv.sum_comp fromPeerBack f

/-! ## Cells and tokens -/

def exCells : Finset (GSem nD τ sig) := Finset.univ.map ⟨kcell, kcell_inj⟩

/-- A duty of a device's cells: one of the barrier's, or the one of a used cell of an array. -/
abbrev TK : Type := Fin 31 ⊕ (Fin 4 × Fin 31)
/-- The token under an index. -/
def tokOf (ct : Dev nD × TK) : GSem nD τ sig × ℕ × Fin 31 := match ct.2 with
  | .inl j => (kcell (ct.1, .inl ()), 0, j)
  | .inr qj => (kcell (ct.1, .inr (qj.1, qj.2.succ)), 0, 0)
/-- Different indices name different tokens. -/
theorem tokOf_inj : Function.Injective tokOf := by
  rintro ⟨c, j | ⟨q, j⟩⟩ ⟨c', j' | ⟨q', j'⟩⟩ h
  · have h1 := kcell_inj (congrArg Prod.fst h)
    have h2 : j = j' := congrArg (fun x : GSem nD τ sig × ℕ × Fin 31 => x.2.2) h
    cases h1; cases h2; rfl
  · have h1 := kcell_inj (congrArg Prod.fst h)
    cases h1
  · have h1 := kcell_inj (congrArg Prod.fst h)
    cases h1
  · have h1 := kcell_inj (congrArg Prod.fst h)
    have hc : c = c' := congrArg Prod.fst h1
    have hk : (Sum.inr (q, j.succ) : CK) = Sum.inr (q', j'.succ) := congrArg Prod.snd h1
    have hk := Sum.inr.inj hk
    have hq : q = q' := congrArg Prod.fst hk
    have hj : j = j' := Fin.succ_injective _ (congrArg Prod.snd hk)
    rw [hc, hq, hj]
/-- All tokens. -/
def exToks : Finset (GSem nD τ sig × ℕ × Fin 31) := Finset.univ.map ⟨tokOf, tokOf_inj⟩

/-- The ghost element at launch. -/
def u₀ : UU := (initOf (Pipeline.cells cfgs cellOf_inj) (Pipeline.launchToks cfgs cellOf_inj), initOf exCells exToks)

/-- The tokens of the duties on a device's own cells. -/
def ownToks (c : Dev nD) : sProp 𝕄 :=
  iprop((each31 fun j => dutyTok ER (barCell c) 0 j) ∗ (each31 fun j => dutyTok ER (dcell c 0 j.succ) 0 0)
    ∗ (each31 fun j => dutyTok ER (dcell c 1 j.succ) 0 0) ∗ (each31 fun j => dutyTok ER (dcell c 2 j.succ) 0 0)
    ∗ each31 fun j => dutyTok ER (dcell c 3 j.succ) 0 0)

/-- What the ghost element is to a device. -/
def minted (c : Dev nD) : sProp 𝕄 :=
  iprop((bigSep Finset.univ fun k : CK => roundState ER (exRd m ρ) (kcell (c, k)) 0)
    ∗ (bigSep Finset.univ fun k : CK => iprop(atPos ER (kcell (c, k)) 0 ∅ 0 ∗ reached ER (kcell (c, k)) 0)) ∗ ownToks c)

/-- What holds over all cells, device by device. -/
theorem over_cells (Φ : GSem nD τ sig → sProp 𝕄) :
    bigSep exCells Φ = bigSep Finset.univ fun c : Dev nD => bigSep Finset.univ fun k : CK => Φ (kcell (c, k)) := by
  unfold exCells; rw [bigSep_map, bigSep_univ_prod]; rfl
/-- The tokens, device by device. -/
theorem over_toks : bigSep exToks (fun x => (dutyTok ER x.1 x.2.1 x.2.2 : sProp 𝕄)) = bigSep Finset.univ fun c : Dev nD => ownToks c := by
  unfold exToks; rw [bigSep_map, bigSep_univ_prod]
  refine bigSep_congr fun c _ => ?_
  rw [bigSep_univ_sum, bigSep_univ_prod, bigSep_four]
  rfl

/-- The initial ghost state gives every device its part. -/
theorem mint : BI.own (ER (initOf exCells exToks)) ⊢ (|==> bigSep Finset.univ (minted m ρ) : sProp 𝕄) := by
  iintro HX
  imod (Rounds.fund ER (exRd m ρ) exCells exToks) $$ HX with ⟨Hst, Hr, Hat, Htok⟩
  imodintro
  ihave Hst := (Entails.of_eq (over_cells fun g => roundState ER (exRd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold minted; simp only [bigSep_sep']
  isplitl [Hst]; · iexact Hst
  isplitl [Hat Hr]
  · isplitl [Hat] <;> iassumption
  iexact Htok

/-! ## The semaphores of the launch -/

/-- The kernel's own semaphores. -/
abbrev osem : Fin 4 × Fin 32 → SemLoc sig := fun qk => .dma (dsem qk.1 qk.2)

/-- The kernel's own semaphores are the four arrays. -/
theorem ownSemFacts : Pipeline.OwnSemFacts cfg0.spec osem where
  isScoped := by decide +kernel
  inj := fun a b h => by
    have h : dsem a.1 a.2 = dsem b.1 b.2 := by injection h
    exact Prod.ext (dsem_inj h).1 (dsem_inj h).2
  disj := by decide +kernel

/-- Their counters at zero, on device `c`. -/
abbrev ownSems (c : Dev nD) : sProp 𝕄 :=
  Pipeline.ownSems0 (Ix := Unit) (Name := ℕ) (U := UU) (Lvl := ℕ) (Val := Elt F) (τ := τ) osem c

/-- The one semaphore outside the kernel's own is the barrier. -/
theorem unscoped_bar (c : Dev nD) : (unscopedSems0 c : sProp 𝕄) = semVal (barCell c) 0 := by
  unfold unscopedSems0; rw [bigSep_eq_bigSepL_of_eq [SemLoc.reg barS] (by decide +kernel) (by decide +kernel)]; rfl

/-- All of a device's cells: the barrier and the arrays. -/
theorem over_CK (Φ : CK → sProp 𝕄) :
    bigSep Finset.univ Φ = iprop(Φ (.inl ()) ∗ bigSep Finset.univ fun qk : Fin 4 × Fin 32 => Φ (.inr qk)) := by
  rw [bigSep_univ_sum, bigSep_univ_of_subsingleton ()]
  rfl

/-- All counters of a device in play. -/
theorem counters (c : Dev nD) :
    iprop(unscopedSems0 c ∗ ownSems c) = (bigSep Finset.univ fun k : CK => semVal (kcell (c, k)) 0 : sProp 𝕄) := by
  rw [unscoped_bar, over_CK]
  rfl

/-- Counters back at zero, as the launch wants them. -/
theorem zeroed_eq (c : Dev nD) : (zeroed c : sProp 𝕄) = iprop(unscopedSems0 c ∗ ownSems c) := by
  rw [unscoped_bar]
  rfl

/-- A device's cells go under invariants. -/
theorem allocate (c : Dev nD) :
    iprop(ownSems c ∗ unscopedSems0 c ∗ minted m ρ c)
      ⊢ |={Set.univ}=> iprop((bigSep Finset.univ fun k : CK => iprop(∃ κ : ℕ, cellInv ER (exRd m ρ) κ (kcell (c, k))))
          ∗ (bigSep Finset.univ fun k : CK => iprop(atPos ER (kcell (c, k)) 0 ∅ 0 ∗ reached ER (kcell (c, k)) 0)) ∗ ownToks c) := by
  have halloc : iprop((bigSep Finset.univ fun k : CK => semVal (kcell (c, k)) 0) ∗ bigSep Finset.univ fun k : CK => roundState ER (exRd m ρ) (kcell (c, k)) 0)
      ⊢ (|={Set.univ}=> bigSep Finset.univ fun k : CK => iprop(∃ κ : ℕ, cellInv ER (exRd m ρ) κ (kcell (c, k))) : sProp 𝕄) := by
    rw [← bigSep_sep']
    exact (bigSep_mono fun k _ => (Rounds.body_intro ER (exRd m ρ) (kcell (c, k))).trans inv_alloc).trans (bigSep_fupd _ _)
  unfold minted
  iintro ⟨Hos, Hus, Hst, Hat, Htok⟩
  ihave Hv := (Entails.of_eq (counters c)) $$ [Hos Hus]
  · isplitl [Hus] <;> iassumption
  imod halloc $$ [Hv Hst] with Hinv
  · isplitl [Hv] <;> iassumption
  imodintro
  isplitl [Hinv]; · iexact Hinv
  isplitl [Hat]; · iexact Hat
  iexact Htok

/-! ## Dealing -/

/-- The tokens go to the devices that do the duties. -/
theorem toks_dealt : (bigSep Finset.univ fun c : Dev nD => (ownToks c : sProp 𝕄)) = bigSep Finset.univ fun c : Dev nD => payToks c := by
  unfold ownToks payToks
  simp only [bigSep_sep']
  rw [at_peer fun cj => dutyTok ER (barCell cj.1) 0 cj.2, at_peer_back fun cj => dutyTok ER (dcell cj.1 1 cj.2.succ) 0 0,
    at_peer_back fun cj => dutyTok ER (dcell cj.1 3 cj.2.succ) 0 0]

/-- The positions of a device, as the kernel's proof lists them. -/
theorem places_eq (c : Dev nD) : (bigSep Finset.univ fun k : CK => (atPos ER (kcell (c, k)) 0 ∅ 0 : sProp 𝕄)) = places c 0 := by
  rw [over_CK, bigSep_arrays]
  rfl

/-- What all devices are dealt, brought to the device that uses it. -/
theorem regroup :
    (bigSep Finset.univ fun c : Dev nD => iprop((bigSep Finset.univ fun k : CK => iprop(∃ κ : ℕ, cellInv ER (exRd m ρ) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (dealt m ρ) := by
  have e (c : Dev nD) : (bigSep Finset.univ fun k : CK => iprop(atPos ER (kcell (c, k)) 0 ∅ 0 ∗ reached ER (kcell (c, k)) 0) : sProp 𝕄)
      = iprop(places c 0 ∗ bigSep Finset.univ fun k : CK => reached ER (kcell (c, k)) 0) := by
    rw [bigSep_sep', places_eq]
  simp only [e]
  simp only [bigSep_sep']
  rw [← bigSep_univ_prod (fun ck : Dev nD × CK => iprop(∃ κ : ℕ, cellInv ER (exRd m ρ) κ (kcell ck))),
    ← bigSep_univ_prod (fun ck : Dev nD × CK => (reached ER (kcell ck) 0 : sProp 𝕄)), toks_dealt]
  iintro ⟨HI, ⟨Hat, #HR⟩, Htok⟩
  ihave HK := (BI.bigSep_exists_pi Finset.univ (fun (ck : Dev nD × CK) (κ : ℕ) => (cellInv ER (exRd m ρ) κ (kcell ck) : sProp 𝕄))) $$ HI
  icases HK with ⟨%K, #HI⟩
  have one (c : Dev nD) : iprop(records m ρ K ∗ (places c 0 ∗ payToks c)) ⊢ dealt m ρ c := by
    unfold dealt
    iintro ⟨HK, Hp, Ht⟩
    isplitl [HK]; · iexists K; iexact HK
    isplitl [Hp] <;> iassumption
  iapply (each_with (S := Finset.univ) (P := records m ρ K) (Φ := fun c => iprop(places c 0 ∗ payToks c)) one)
  isplitr
  · unfold records; isplitl; · iexact HI
    iexact HR
  rw [bigSep_sep']
  isplitl [Hat] <;> iassumption

/-- All devices at once: their semaphores go under invariants, and the ghost state is dealt. -/
theorem deal : (bigSep Finset.univ fun c => iprop(ownSems c ∗ unscopedSems0 c ∗ minted m ρ c) : sProp 𝕄)
    ⊢ |={Set.univ}=> bigSep Finset.univ (dealt m ρ) :=
  ((bigSep_mono fun c _ => allocate m ρ c).trans (bigSep_fupd _ _)).trans (BI.fupd_mono (regroup m ρ))

end Cert.AllReduce

end
-- ==== Proof.Launch.lean ====
/-
# `Launch`: the run of the whole program

The devices' credits are what all the others owe them. With the dealt ghost state and the body's obligation this gives the run: every execution ends, with the
result's array holding `outAll` on every device, the input unchanged and every semaphore at zero.
-/
module

public import proofs.«01_k».proof.Proof.Deal
public import Idealize.ShloMosaic.Lib.Pipeline.CollectiveSegs
public import Idealize.ShloMosaic.Lib.Pipeline.ValueKit.Geometry

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The credits -/

/-- A barrier's cell is no array's cell. -/
theorem bar_ne_dma (c d : Dev nD) (q : Fin 4) (k : Fin 32) : barCell c ≠ dcell d q k := fun h => by
  have h : (SemLoc.reg barS : SemLoc sig) = .dma (dsem q k) := congrArg Prod.snd h
  cases h
/-- Barrier cells are told apart by device, -/
theorem bar_eq_iff {c d : Dev nD} : barCell c = barCell d ↔ c = d :=
  ⟨fun h => congrArg (fun g : GSem nD τ sig => g.1.1) h, fun h => h ▸ rfl⟩
/-- array cells by device, array and number. -/
theorem dcell_eq_iff {c d : Dev nD} {q q' : Fin 4} {k k' : Fin 32} : dcell c q k = dcell d q' k' ↔ c = d ∧ q = q' ∧ k = k' :=
  ⟨fun h => ⟨congrArg (fun g : GSem nD τ sig => g.1.1) h, by
      have h : (SemLoc.dma (dsem q k) : SemLoc sig) = .dma (dsem q' k') := congrArg Prod.snd h
      injection h with h
      exact dsem_inj h⟩, fun ⟨h1, h2, h3⟩ => by rw [h1, h2, h3]⟩

/-- All signals to a device's barrier. -/
theorem sum_sig (c : Dev nD) : (∑ d : Dev nD, owedSig d Finset.univ (barCell c) ()) = 31 := by
  have e (d : Dev nD) : owedSig d Finset.univ (barCell c) () = ∑ j : Fin 31, if ahead d j = c then 1 else 0 := by
    unfold owedSig
    rw [Finset.sum_apply, Finsupp.finset_sum_apply]
    refine Finset.sum_congr rfl fun j _ => ?_
    rw [tallyAt_apply]
    refine if_congr ⟨fun h => (bar_eq_iff.mp h.1).symm, fun h => ⟨bar_eq_iff.mpr h.symm, rfl⟩⟩ rfl rfl
  rw [Finset.sum_congr rfl fun d _ => e d, sum_peer fun cj => if cj.1 = c then 1 else 0, Finset.sum_comm]
  simp
/-- No signal goes to an array's cell. -/
theorem sum_sig_dma (c : Dev nD) (q : Fin 4) (k : Fin 32) : (∑ d : Dev nD, owedSig d Finset.univ (dcell c q k) ()) = 0 := by
  refine Finset.sum_eq_zero fun d _ => ?_
  unfold owedSig
  rw [Finset.sum_apply, Finsupp.finset_sum_apply]
  refine Finset.sum_eq_zero fun j _ => ?_
  rw [tallyAt_apply, if_neg fun h => bar_ne_dma _ _ _ _ h.1.symm]

/-- All arrivals of one exchange on a device's cell: one chunk, if the cell is of that exchange. -/
theorem sum_arr (c : Dev nD) (q q' : Fin 4) (j' : Fin 31) :
    (∑ d : Dev nD, owedArr d q Finset.univ (dcell c q' j'.succ) ()) = if q' = q then N else 0 := by
  have e (d : Dev nD) : owedArr d q Finset.univ (dcell c q' j'.succ) ()
      = ∑ j : Fin 31, if c = ahead d j ∧ q' = q ∧ j' = j.rev then N else 0 := by
    unfold owedArr
    rw [Finset.sum_apply, Finsupp.finset_sum_apply]
    refine Finset.sum_congr rfl fun j _ => ?_
    rw [tallyAt_apply]
    refine if_congr ⟨fun h => ?_, fun h => ⟨dcell_eq_iff.mpr ⟨h.1, h.2.1, congrArg Fin.succ h.2.2⟩, rfl⟩⟩ rfl rfl
    obtain ⟨h1, h2, h3⟩ := dcell_eq_iff.mp h.1
    exact ⟨h1, h2, Fin.succ_injective _ h3⟩
  rw [Finset.sum_congr rfl fun d _ => e d, sum_peer_back fun cj => if c = cj.1 ∧ q' = q ∧ j' = cj.2 then N else 0,
    Finset.sum_eq_single c (fun d _ hd => Finset.sum_eq_zero fun j _ => if_neg fun h => hd h.1.symm) (fun h => absurd (Finset.mem_univ c) h),
    Finset.sum_eq_single j' (fun j _ hj => if_neg fun h => hj h.2.2.symm) (fun h => absurd (Finset.mem_univ j') h)]
  exact if_congr ⟨fun h => h.2.1, fun h => ⟨rfl, h, rfl⟩⟩ rfl rfl
/-- No arrival goes to a barrier. -/
theorem sum_arr_bar (c : Dev nD) (q : Fin 4) : (∑ d : Dev nD, owedArr d q Finset.univ (barCell c) ()) = 0 := by
  refine Finset.sum_eq_zero fun d _ => ?_
  unfold owedArr
  rw [Finset.sum_apply, Finsupp.finset_sum_apply]
  refine Finset.sum_eq_zero fun j _ => ?_
  rw [tallyAt_apply, if_neg fun h => bar_ne_dma _ _ _ _ h.1]

/-- What all devices owe a cell is the sum of the three kinds. -/
theorem sum_owed (g : GSem nD τ sig) :
    (∑ d : Dev nD, O₀ d g ()) = (∑ d : Dev nD, owedSig d Finset.univ g ())
      + ((∑ d : Dev nD, owedArr d 1 Finset.univ g ()) + ∑ d : Dev nD, owedArr d 3 Finset.univ g ()) := by
  rw [← Finset.sum_add_distrib, ← Finset.sum_add_distrib]
  refine Finset.sum_congr rfl fun d _ => ?_
  unfold O₀
  rw [Pi.add_apply, Finsupp.add_apply, Pi.add_apply, Finsupp.add_apply]

/-- A cell's credit at launch is what all devices owe it. -/
theorem credit_of (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- Thirty-one units for the barrier, -/
theorem credit_bar (c : Dev nD) :
    tallyOn (barCell c) (launchCredit (Pipeline.owing O₀) 0 (barCell c)) = (tallyAt (barCell c) () 31 : CellTallies nD τ sig Unit) :=
  credit_of _ _ (by rw [sum_owed, sum_sig, sum_arr_bar, sum_arr_bar])
/-- one chunk for each arrival of the first exchange, -/
theorem credit_one (c : Dev nD) (j : Fin 31) :
    tallyOn (dcell c 1 j.succ) (launchCredit (Pipeline.owing O₀) 0 (dcell c 1 j.succ)) = (tallyAt (dcell c 1 j.succ) () N : CellTallies nD τ sig Unit) :=
  credit_of _ _ (by rw [sum_owed, sum_sig_dma, sum_arr, sum_arr, if_pos rfl, if_neg (by decide), Nat.add_zero, Nat.zero_add])
/-- and one for each of the second. -/
theorem credit_three (c : Dev nD) (j : Fin 31) :
    tallyOn (dcell c 3 j.succ) (launchCredit (Pipeline.owing O₀) 0 (dcell c 3 j.succ)) = (tallyAt (dcell c 3 j.succ) () N : CellTallies nD τ sig Unit) :=
  credit_of _ _ (by rw [sum_owed, sum_sig_dma, sum_arr, sum_arr, if_neg (by decide), if_pos rfl, Nat.zero_add, Nat.zero_add])

/-- The launch's credits hold what the kernel waits with. -/
theorem credits_of (c : Dev nD) : (Pipeline.launchCred O₀ c : sProp 𝕄) ⊢ credits c := by
  unfold Pipeline.launchCred
  refine (bigSep_subset (Finset.subset_univ (Finset.univ.map ⟨csem, csem_inj⟩))).trans ?_
  rw [bigSep_map]
  refine (Entails.of_eq (over_CK _)).trans ?_
  rw [bigSep_arrays]
  unfold credits
  have e1 := (bigSep_congr (s := (Finset.univ : Finset (Fin 31))) fun j _ => congrArg (fun t => (cred t : sProp 𝕄)) (credit_one c j))
  have e3 := (bigSep_congr (s := (Finset.univ : Finset (Fin 31))) fun j _ => congrArg (fun t => (cred t : sProp 𝕄)) (credit_three c j))
  rw [← credit_bar]
  unfold each31
  rw [← e1, ← e3]
  iintro ⟨HB, -, -, H1, -, H3⟩
  isplitl [HB]; · iexact HB
  isplitl [H1]; · iexact H1
  iexact H3

/-! ## The side conditions of the launch -/

/-- The call holds each of its arrays in full. -/
theorem share_full (c : Dev nD) (w : Fin cfg0.W) : (dats m ρ 0 c).share w = fullShare := by unfold Dat.share; split <;> rfl

/-- What the launch hands a device is what it starts with. -/
theorem start_in (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  iintro ⟨-, Hlev, Hcr, -, HG⟩
  ihave Hc := (credits_of (F := F) c) $$ Hcr
  imodintro
  unfold start
  isplitl
  · isplitl [HG]; · iexact HG
    isplitl [Hc]; · iexact Hc
    iexact Hlev
  · iempintro

/-- With the receive buffer that is what its body starts from. -/
theorem first_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀
  iintro ⟨Hs, -, Hr⟩
  isplitl [Hs] <;> iassumption

/-- What the body leaves closes the launch. -/
theorem last_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, scopedRest0_eq]
  unfold after₀
  rw [zeroed_eq]
  iintro ⟨⟨HB, HZ⟩, Hr⟩
  isplitl [HB]; · iexact HB
  isplitl [HZ] <;> iassumption

/-- The staging copies' semaphores lie below all that a device owes. -/
theorem stage_lv : ∀ (w : Fin cfg0.W) (s : Fin (cfg0.win w).nbuf), arrLv (arrOf ((cfg0.win w).sem s)) = 0 := by decide +kernel

/-- The staging copies' waits are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of (F := F) (c := c) (S := Finset.univ) (S₁ := Finset.univ) (S₃ := Finset.univ) 0 (le_of_eq (stage_lv w s))
        (.inl (by decide)) (.inl (by decide)) (.inl (by decide))
    · show _ ⊢ MayWait _ _ _ 0
      rw [MayWait_zero]
      iintro -
      iempintro

/-! ## The run -/

/-- What an array of the call holds at the end. -/
def finalA (c : Dev nD) (w : Fin cfg0.W) : Buf (Elt F) ((cfg0.win w).arr.view.loc (c : Thread nD τ)) := (dats m ρ 0 c).arrAt w cfg0.N

/-- The call's arrays at the end. -/
def Ends (r : PUnit × MemSt nD τ sig (Elt F)) : Prop :=
  ∀ c : Dev nD, ∀ w : Fin cfg0.W, r.2.mem ((cfg0.win w).arr.view.loc (c : Thread nD τ)) = finalA m ρ c w

/-- Every execution of the program on the mesh ends without a fault, with every array of the call at its final contents and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := minted m ρ) (G' := dealt m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_in m ρ) (hin := first_in m ρ) (hout := last_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array holds what it held. -/
theorem final_x (c : Dev nD) : finalA m ρ c (0 : Fin 2) = (s₀ m ρ).mem (win0_0.arr.view.loc (c : Thread nD τ)) :=
  (dats (F := F) m ρ 0 c).arrAt_in (0 : Fin 2) rfl _

/-- The result's array holds the computed rows: the one write-back is of the whole array. -/
theorem final_out (c : Dev nD) : finalA m ρ c (1 : Fin 2) = outAll m ρ :=
  (dats (F := F) m ρ 0 c).arrAt_eq_of_after_last (1 : Fin 2) t0_0 (by decide +kernel) _ (fun j => rfl)

/-- The run in the words of the claims: the result on each device, the input unchanged, the semaphores at zero. -/
theorem run_ends : θ_run defs (onTc (τ := τ) (main (F := F))) (s₀ m ρ) (fun r =>
    (∀ c : Dev nD, r.2.mem ((c.tc : Thread nD τ).loc main_v1) = outAll m ρ
      ∧ r.2.mem ((c.tc : Thread nD τ).loc main_arg0) = m ((c.tc : Thread nD τ).loc main_arg0)) ∧ r.2.sem = fun _ => 0) :=
  (θ_run defs _ _).mono (fun r h => ⟨fun c => ⟨(h.1 c (1 : Fin 2)).trans (final_out m ρ c), (h.1 c (0 : Fin 2)).trans (final_x m ρ c)⟩, h.2⟩)
    (run_main m ρ)

end Cert.AllReduce

end
-- ==== Proof.Sums.lean ====
/-
# `Sums`: what the result holds, over the extended reals

A device's reduced chunk is two sums of sixteen slots each; together they run over all thirty-two devices. So an element of the result is the sum, over the
devices, of the inputs there.
-/
module

public import proofs.«01_k».proof.Proof.Launch
public import Idealize.ShloMosaic.PureOps.Ideal.Laws

@[expose] public section

set_option maxRecDepth 100000

noncomputable section

namespace Cert.AllReduce

open Cert.KernelIdeal Cert.KernelIdeal.Gen
open Idealize.ShloMosaic
open Idealize.ShloMosaic.TcCoe
open Idealize.ShloMosaic.ValueIdx

variable (m : (ℓ : Loc nD τ sig) → Buf (Elt Ideal) ℓ) (ρ : Dev nD → PrngReg)

/-- The argument of device `c`. -/
abbrev argOf (c : Dev nD) : S512x512.Idx → EReal := m ((c.tc : Thread nD τ).loc main_arg0)

/-- The input on device `c` is its argument. -/
theorem xstg_apply (c : Dev nD) (i : S512x512.Idx) : xstg m ρ c i = argOf m c i := by
  unfold xstg
  exact congrArg (argOf m c) (funext fun a => Fin.ext (by
    fin_cases a
    · show 0 * 512 + 1 * (i 0).val = (i 0).val; omega
    · show 0 * 512 + 1 * (i 1).val = (i 1).val; omega))

/-- Summing over the slots is summing over the devices. -/
theorem sum_slots (p : Dev nD) (f : Dev nD → EReal) :
    (∑ k : Fin 16, f (sh p (16 + k.val))) + (∑ k : Fin 16, f (sh p k.val)) = ∑ d : Dev nD, f d := by
  rw [← (shEquiv p).sum_comp f, add_comm]
  exact (Fin.sum_univ_add (a := 16) (b := 16) fun k : Fin 32 => f (sh p k.val)).symm

/-- The sum of the slots from `base` on, at row `r` and column `k` of the chunk. -/
theorem sum_part (p : Dev nD) (base : ℕ) (inb) (i : S16x512.Idx) :
    multiReduction (F := Ideal) .add [0] S16x512
        (rM.view.readAt (Elt Ideal) (Rect.unit (s := S32x16x512) ![base, 0, 0] S16x16x512.size inb).toLoadRect (rsAll m ρ p))
        0x00000000#32 reduces_S16x16x512_S16x512 (.inl rfl) rfl i
      = ∑ k : Fin 16, xstg m ρ (sh p (base + k.val)) (rowIx p (i 0) (i 1)) := by
  refine (Ideal.multiReduction_add_single _ _ _ _ _ _).trans (Finset.sum_congr rfl fun k _ => ?_)
  show rsAll m ρ p _ = _
  unfold rsAll
  have e0 : ∀ x : Fin 16, base + 1 * x.val = base + x.val := fun x => by omega
  have e1 : ∀ x : ℕ, 0 + 1 * x = x := fun x => by omega
  refine congrArg₂ (fun (d : Dev nD) (j : S512x512.Idx) => xstg m ρ d j) (congrArg (sh p) (e0 k)) ?_
  exact congrArg₂ (rowIx p) (Fin.ext (e1 (i 0).val)) (Fin.ext (e1 (i 1).val))

/-- An element of a reduced chunk is the sum over the devices of the inputs there. -/
theorem redAt_apply (p : Dev nD) (i : S16x512.Idx) : redAt m ρ p i = ∑ d : Dev nD, xstg m ρ d (rowIx p (i 0) (i 1)) := by
  refine Eq.trans ?_ (sum_slots p fun d => xstg m ρ d (rowIx p (i 0) (i 1)))
  have h := sum_part m ρ p 0 inb_S32x16x512_S16x16x512_0_0_0 i
  simp only [Nat.zero_add] at h
  exact congrArg₂ (· + ·) (sum_part m ρ p 16 inb_S32x16x512_S16x16x512_16_0_0 i) h

/-- Putting an element's place in its chunk back into the whole. -/
theorem rowIx_inChunk (i : S512x512.Idx) : rowIx (chunkOf i) (inChunk i 0) (inChunk i 1) = i := by
  funext a
  apply Fin.ext
  fin_cases a
  · show 16 * ((i 0).val / 16) + (i 0).val % 16 = (i 0).val; omega
  · rfl

/-- An element of the result is the sum over the devices of their arguments there. -/
theorem outAll_apply (i : S512x512.Idx) : outAll m ρ i = ∑ d : Dev nD, argOf m d i := by
  unfold outAll
  rw [redAt_apply, rowIx_inChunk]
  exact Finset.sum_congr rfl fun d _ => xstg_apply m ρ d i

end Cert.AllReduce

end
-- ==== Proof.Reference.lean ====
/-
# `Reference`: what the reference computes

The reference cuts its rows into thirty-two blocks and adds them: an element of its result is the sum over the blocks of the argument there.
-/
module

public import proofs.«01_k».proof.Proof.Gen.ReferenceIdeal.Run
public import Idealize.ShloMosaic.PureOps.Ideal.Laws
public import Idealize.ShloMosaic.Lib.Layout
public import Idealize.ShloMosaic.Lib.Pointwise.Reduce
public import Idealize.ShloMosaic.Lib.ValueLayout
public import Idealize.ShloMosaic.Lib.Pipeline.Value

@[expose] public section

set_option maxRecDepth 100000

noncomputable section

namespace Cert.AllReduceRef

open Cert.ReferenceIdeal Cert.ReferenceIdeal.Gen
open Idealize.ShloMosaic
open Idealize.ShloMosaic.TcCoe
open Idealize.ShloMosaic.ValueIdx
open Idealize.SL.Sem

/-- The reference's result on an argument `x`. -/
abbrev total (x : S16384x512.Idx → EReal) : S512x512.Idx → EReal :=
  Host.reduceAdd (F := Ideal) (φ := .f32) (shapeCast _ x shapeCasts_S16384x512_S32x512x512) (constant (F := Ideal) S_ .f32 0x00000000#32) reducesTo_S32x512x512_S512x512_d0 h_S_

/-- Dropping the first axis of the thirty-two layers leaves one layer. -/
theorem reduces : S32x512x512.Reduces [0] S512x512 := by decide

/-- The sum of an array's thirty-two layers from an initial value. -/
theorem layers (y : S32x512x512.Idx → EReal) (z : S_.Idx → EReal) (i : S512x512.Idx) :
    Host.reduceAdd (F := Ideal) (φ := .f32) y z reducesTo_S32x512x512_S512x512_d0 h_S_ i
      = z (Shape.Idx.first h_S_) + ∑ d : Fin 32, y (reduces.lift i d) := by
  rw [Host.reduceAdd_apply, Ideal.hostReduceAdd_def, Ideal.hostReduceAdd_single reducesTo_S32x512x512_S512x512_d0 reduces]
  rfl

/-- It starts from zero. -/
theorem initial_zero (i : S_.Idx) : constant (F := Ideal) S_ .f32 0x00000000#32 i = (0 : EReal) := by
  show Ideal.ofBits .f32 0x00000000#32 = 0
  simp

/-- Thirty-two blocks of rows make up the argument. -/
theorem tiles : Layout.Tiles ⟨2, ![512, 512]⟩ ⟨2, ![16384, 512]⟩ 0 32 := by decide

/-- An element of the result is the sum, over the thirty-two blocks of rows, of the argument there. -/
theorem total_apply (x : S16384x512.Idx → EReal) (i : S512x512.Idx) :
    total x i = ∑ d : Fin 32, Layout.block ⟨2, ![512, 512]⟩ ⟨2, ![16384, 512]⟩ 0 32 d x tiles i := by
  refine (layers _ _ i).trans ?_
  rw [initial_zero, zero_add]
  refine Finset.sum_congr rfl fun d _ => ?_
  refine shapeCast_apply x _ _ (tiles.idx d i) ?_
  rw [Shape.rowMajor_val_two, Shape.rowMajor_val_three]
  show (d.val * 512 + (i 0).val) * 512 + (i 1).val = (d.val * 512 + (i 0).val) * 512 + (i 1).val
  rfl

/-- Every execution of the reference ends, with the result `total` of the argument, the argument unchanged and every semaphore at zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v1) = total (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨h, funext fun g => by
    rcases g with ⟨t, s | s⟩ <;> exact s.elim0⟩) (Value.run m ρ)

end Cert.AllReduceRef

end
-- ==== Proof.Equation.lean ====
/-
# `Equation`: the claims about the kernel, and that it computes what the reference computes

The kernel's run is proved for any float values, so the frames of the kernel as compiled and of its reading over the extended reals are the same theorem.
Over the extended reals each device's result is the sum over the devices of their blocks, which is the reference's.
-/
module

public import proofs.«01_k».proof.Defs
public import proofs.«01_k».proof.Proof.Gen.Kernel
public import proofs.«01_k».proof.Proof.Gen.ReferenceIdeal
public import proofs.«01_k».proof.Proof.Sums
public import proofs.«01_k».proof.Proof.Reference

@[expose] public section

set_option maxRecDepth 100000

noncomputable section

namespace Cert.AllReduce

open Idealize.ShloMosaic Idealize.SL.Sem
open Idealize.ShloMosaic.TcCoe

/-- The two kernel bodies are one text, -/
theorem same_body : Cert.Kernel.cc0_body (F := Bits) = Cert.KernelIdeal.cc0_body (F := Bits) := rfl

/-- so the tables of bodies agree, -/
theorem same_table : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) =>
    exact congrFun (congrFun (congrFun (congrFun (congrFun (congrFun (congrFun (congrFun (congrFun (congrFun same_body _) _) _) _) _) _) _) _) _) _

/-- and the programs' definitions. -/
theorem same_defs : Cert.Kernel.defs (F := Bits) = Cert.KernelIdeal.defs (F := Bits) :=
  congrArg (Pipeline.defs Cert.Kernel.pcfgs) same_table

/-- The kernel as compiled runs, leaves its argument unchanged and ends with every semaphore at zero. -/
theorem frame_kernel : Cert.quiescent_Kernel := fun m ρ _ => by
  rw [same_defs]
  exact (θ_run Cert.KernelIdeal.defs _ _).mono (fun _ h => ⟨fun c => (h.1 c).2, h.2⟩) (run_ends (F := Bits) m ρ)

/-- So does the kernel over the extended reals, -/
theorem frame_ideal : Cert.quiescent_KernelIdeal := fun m ρ _ =>
  (θ_run Cert.KernelIdeal.defs _ _).mono (fun _ h => ⟨fun c => (h.1 c).2, h.2⟩) (run_ends (F := Ideal) m ρ)

/-- and the reference. -/
theorem frame_reference : Cert.quiescent_ReferenceIdeal := fun m ρ _ =>
  (θ_run Cert.ReferenceIdeal.defs _ _).mono (fun _ h => ⟨fun c => (h.1 c).2, h.2⟩) (Cert.AllReduceRef.run m ρ)

/-- When every device holds its block of the reference's argument, the result of the kernel is the reference's. -/
theorem out_eq_total (m : (ℓ : Loc Cert.KernelIdeal.nD Cert.KernelIdeal.τ Cert.KernelIdeal.sig) → Buf (Elt Ideal) ℓ)
    (ρ : Dev Cert.KernelIdeal.nD → PrngReg) (x : Cert.ReferenceIdeal.S16384x512.Idx → EReal)
    (h : ∀ c : Dev Cert.KernelIdeal.nD, argOf m c = Layout.block ⟨2, ![512, 512]⟩ ⟨2, ![16384, 512]⟩ 0 32 c x Cert.AllReduceRef.tiles) :
    outAll m ρ = Cert.AllReduceRef.total x := by
  funext i
  refine (outAll_apply m ρ i).trans (Eq.trans ?_ (Cert.AllReduceRef.total_apply x i).symm)
  exact Finset.sum_congr rfl fun d _ => congrFun (h d) i

/-- The kernel computes, on every device, what the reference computes. -/
theorem algebraic : Cert.algebraic_KernelIdeal_ReferenceIdeal := fun m g m' g' _ hin =>
  ⟨Cert.AllReduceRef.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (out_eq_total m g _ hin), (h.1 c).2⟩) (run_ends (F := Ideal) m g),
    (θ_run Cert.ReferenceIdeal.defs _ _).mono (fun _ h => h.1 0) (Cert.AllReduceRef.run m' g')⟩

end Cert.AllReduce

end
-- ==== Proof.lean ====
/-
# The claims

Put together: the frames of the kernel, of the kernel over the extended reals and of the reference, that the second is the first's text unchanged, and
that it computes what the reference computes.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Equation

@[expose] public section

noncomputable section

namespace Cert.Proof

open Idealize.ShloMosaic Idealize.SL.Sem

/-- All the claims, under the proved side conditions of the three programs. -/
theorem claim : Cert.Claim :=
  ⟨Cert.Kernel.Gen.facts, Cert.KernelIdeal.Gen.facts, Cert.ReferenceIdeal.Gen.facts, Cert.AllReduce.frame_kernel, Cert.AllReduce.frame_ideal,
    Cert.AllReduce.frame_reference, trivial, Cert.AllReduce.algebraic⟩

end Cert.Proof

end
